-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x1024x2048 : Shape := ⟨3, ![12, 1024, 2048]⟩
abbrev S3x128x16x16 : Shape := ⟨4, ![3, 128, 16, 16]⟩
abbrev S1024x5632 : Shape := ⟨2, ![1024, 5632]⟩
abbrev S16x5632 : Shape := ⟨2, ![16, 5632]⟩
abbrev S5632 : Shape := ⟨1, ![5632]⟩
abbrev S12288x2048 : Shape := ⟨2, ![12288, 2048]⟩
abbrev S3x2048x16 : Shape := ⟨3, ![3, 2048, 16]⟩
abbrev S1x5632 : Shape := ⟨2, ![1, 5632]⟩
abbrev S12288x5632 : Shape := ⟨2, ![12288, 5632]⟩
abbrev S512x2048 : Shape := ⟨2, ![512, 2048]⟩
abbrev S512x5632 : Shape := ⟨2, ![512, 5632]⟩
abbrev S2048x5632 : Shape := ⟨2, ![2048, 5632]⟩
abbrev S3x8x256x256 : Shape := ⟨4, ![3, 8, 256, 256]⟩
abbrev S1x256x16 : Shape := ⟨3, ![1, 256, 16]⟩
abbrev S256x16 : Shape := ⟨2, ![256, 16]⟩
abbrev S256x256 : Shape := ⟨2, ![256, 256]⟩
abbrev S16x256 : Shape := ⟨2, ![16, 256]⟩
abbrev S1x1x256x256 : Shape := ⟨4, ![1, 1, 256, 256]⟩
abbrev S128x5632 : Shape := ⟨2, ![128, 5632]⟩
abbrev S512x256 : Shape := ⟨2, ![512, 256]⟩
abbrev S2048x512 : Shape := ⟨2, ![2048, 512]⟩
abbrev S512x512 : Shape := ⟨2, ![512, 512]⟩
abbrev S1x512 : Shape := ⟨2, ![1, 512]⟩
abbrev S12x1024x5632 : Shape := ⟨3, ![12, 1024, 5632]⟩

abbrev nBuf : Space → Nat
  | .hbm => 12
  | .vmem => 12
  | .smem => 0
  | _ => 0

abbrev bufTy : (tb : Table) → Fin (tcTables nBuf tb) → BufTy
  | .hbm, ⟨0, _⟩ => ⟨S12x1024x2048, .bf16⟩
  | .hbm, ⟨1, _⟩ => ⟨S3x128x16x16, .bf16⟩
  | .hbm, ⟨2, _⟩ => ⟨S1024x5632, .i8⟩
  | .hbm, ⟨3, _⟩ => ⟨S16x5632, .bf16⟩
  | .hbm, ⟨4, _⟩ => ⟨S5632, .f32⟩
  | .hbm, ⟨5, _⟩ => ⟨S12288x2048, .bf16⟩
  | .hbm, ⟨6, _⟩ => ⟨S3x2048x16, .bf16⟩
  | .hbm, ⟨7, _⟩ => ⟨S1x5632, .f32⟩
  | .hbm, ⟨8, _⟩ => ⟨S12288x5632, .bf16⟩
  | .hbm, ⟨9, _⟩ => ⟨S12288x2048, .bf16⟩
  | .hbm, ⟨10, _⟩ => ⟨S12x1024x5632, .bf16⟩
  | .hbm, ⟨11, _⟩ => ⟨S12x1024x2048, .bf16⟩
  | .local _ .vmem, ⟨0, _⟩ => ⟨S512x2048, .bf16⟩
  | .local _ .vmem, ⟨1, _⟩ => ⟨S512x2048, .bf16⟩
  | .local _ .vmem, ⟨2, _⟩ => ⟨S3x2048x16, .bf16⟩
  | .local _ .vmem, ⟨3, _⟩ => ⟨S1024x5632, .i8⟩
  | .local _ .vmem, ⟨4, _⟩ => ⟨S16x5632, .bf16⟩
  | .local _ .vmem, ⟨5, _⟩ => ⟨S1x5632, .f32⟩
  | .local _ .vmem, ⟨6, _⟩ => ⟨S512x5632, .bf16⟩
  | .local _ .vmem, ⟨7, _⟩ => ⟨S512x5632, .bf16⟩
  | .local _ .vmem, ⟨8, _⟩ => ⟨S512x2048, .bf16⟩
  | .local _ .vmem, ⟨9, _⟩ => ⟨S512x2048, .bf16⟩
  | .local _ .vmem, ⟨10, _⟩ => ⟨S2048x5632, .bf16⟩
  | .local _ .vmem, ⟨11, _⟩ => ⟨S3x8x256x256, .bf16⟩
  | _, _ => ⟨S12x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x2048x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S12x1024x2048 : Shape := ⟨3, ![12, 1024, 2048]⟩
abbrev S3x128x16x16 : Shape := ⟨4, ![3, 128, 16, 16]⟩
abbrev S1024x5632 : Shape := ⟨2, ![1024, 5632]⟩
abbrev S16x5632 : Shape := ⟨2, ![16, 5632]⟩
abbrev S5632 : Shape := ⟨1, ![5632]⟩
abbrev S12x1024x128x16x1 : Shape := ⟨5, ![12, 1024, 128, 16, 1]⟩
abbrev S1x128x16x16 : Shape := ⟨4, ![1, 128, 16, 16]⟩
abbrev S128x16x16 : Shape := ⟨3, ![128, 16, 16]⟩
abbrev S128x1x16x16 : Shape := ⟨4, ![128, 1, 16, 16]⟩
abbrev S128x1x16x12x1024 : Shape := ⟨5, ![128, 1, 16, 12, 1024]⟩
abbrev S12x1024x64x16x2 : Shape := ⟨5, ![12, 1024, 64, 16, 2]⟩
abbrev S64x2x16x16 : Shape := ⟨4, ![64, 2, 16, 16]⟩
abbrev S64x2x16x12x1024 : Shape := ⟨5, ![64, 2, 16, 12, 1024]⟩
abbrev S12x1024x32x16x4 : Shape := ⟨5, ![12, 1024, 32, 16, 4]⟩
abbrev S32x4x16x16 : Shape := ⟨4, ![32, 4, 16, 16]⟩
abbrev S32x4x16x12x1024 : Shape := ⟨5, ![32, 4, 16, 12, 1024]⟩
abbrev S8x5632 : Shape := ⟨2, ![8, 5632]⟩
abbrev S8x128x5632 : Shape := ⟨3, ![8, 128, 5632]⟩
abbrev S_ : Shape := ⟨0, ![]⟩
abbrev S12x1024x1024 : Shape := ⟨3, ![12, 1024, 1024]⟩
abbrev S12x1024x5632 : Shape := ⟨3, ![12, 1024, 5632]⟩
abbrev S1x1x5632 : Shape := ⟨3, ![1, 1, 5632]⟩

abbrev nBuf : Space → Nat
  | .hbm => 73
  | .vmem => 0
  | .smem => 0
  | _ => 0

abbrev bufTy : (tb : Table) → Fin (tcTables nBuf tb) → BufTy
  | .hbm, ⟨0, _⟩ => ⟨S12x1024x2048, .bf16⟩
  | .hbm, ⟨1, _⟩ => ⟨S3x128x16x16, .bf16⟩
  | .hbm, ⟨2, _⟩ => ⟨S1024x5632, .i8⟩
  | .hbm, ⟨3, _⟩ => ⟨S16x5632, .bf16⟩
  | .hbm, ⟨4, _⟩ => ⟨S5632, .f32⟩
  | .hbm, ⟨5, _⟩ => ⟨S12x1024x128x16x1, .bf16⟩
  | .hbm, ⟨6, _⟩ => ⟨S1x128x16x16, .bf16⟩
  | .hbm, ⟨7, _⟩ => ⟨S128x16x16, .bf16⟩
  | .hbm, ⟨8, _⟩ => ⟨S128x1x16x16, .bf16⟩
  | .hbm, ⟨9, _⟩ => ⟨S128x1x16x12x1024, .f32⟩
  | .hbm, ⟨10, _⟩ => ⟨S12x1024x128x16x1, .f32⟩
  | .hbm, ⟨11, _⟩ => ⟨S12x1024x2048, .f32⟩
  | .hbm, ⟨12, _⟩ => ⟨S12x1024x2048, .bf16⟩
  | .hbm, ⟨13, _⟩ => ⟨S12x1024x64x16x2, .bf16⟩
  | .hbm, ⟨14, _⟩ => ⟨S1x128x16x16, .bf16⟩
  | .hbm, ⟨15, _⟩ => ⟨S128x16x16, .bf16⟩
  | .hbm, ⟨16, _⟩ => ⟨S64x2x16x16, .bf16⟩
  | .hbm, ⟨17, _⟩ => ⟨S64x2x16x12x1024, .f32⟩
  | .hbm, ⟨18, _⟩ => ⟨S12x1024x64x16x2, .f32⟩
  | .hbm, ⟨19, _⟩ => ⟨S12x1024x2048, .f32⟩
  | .hbm, ⟨20, _⟩ => ⟨S12x1024x2048, .bf16⟩
  | .hbm, ⟨21, _⟩ => ⟨S12x1024x32x16x4, .bf16⟩
  | .hbm, ⟨22, _⟩ => ⟨S1x128x16x16, .bf16⟩
  | .hbm, ⟨23, _⟩ => ⟨S128x16x16, .bf16⟩
  | .hbm, ⟨24, _⟩ => ⟨S32x4x16x16, .bf16⟩
  | .hbm, ⟨25, _⟩ => ⟨S32x4x16x12x1024, .f32⟩
  | .hbm, ⟨26, _⟩ => ⟨S12x1024x32x16x4, .f32⟩
  | .hbm, ⟨27, _⟩ => ⟨S12x1024x2048, .f32⟩
  | .hbm, ⟨28, _⟩ => ⟨S12x1024x2048, .bf16⟩
  | .hbm, ⟨29, _⟩ => ⟨S8x5632, .bf16⟩
  | .hbm, ⟨30, _⟩ => ⟨S8x128x5632, .bf16⟩
  | .hbm, ⟨31, _⟩ => ⟨S1024x5632, .bf16⟩
  | .hbm, ⟨32, _⟩ => ⟨S8x5632, .bf16⟩
  | .hbm, ⟨33, _⟩ => ⟨S8x128x5632, .bf16⟩
  | .hbm, ⟨34, _⟩ => ⟨S1024x5632, .bf16⟩
  | .hbm, ⟨35, _⟩ => ⟨S1024x5632, .i32⟩
  | .hbm, ⟨36, _⟩ => ⟨S_, .i32⟩
  | .hbm, ⟨37, _⟩ => ⟨S1024x5632, .i32⟩
  | .hbm, ⟨38, _⟩ => ⟨S1024x5632, .i32⟩
  | .hbm, ⟨39, _⟩ => ⟨S1024x5632, .i8⟩
  | .hbm, ⟨40, _⟩ => ⟨S1024x5632, .i32⟩
  | .hbm, ⟨41, _⟩ => ⟨S_, .i32⟩
  | .hbm, ⟨42, _⟩ => ⟨S1024x5632, .i32⟩
  | .hbm, ⟨43, _⟩ => ⟨S1024x5632, .i1⟩
  | .hbm, ⟨44, _⟩ => ⟨S_, .i32⟩
  | .hbm, ⟨45, _⟩ => ⟨S1024x5632, .i32⟩
  | .hbm, ⟨46, _⟩ => ⟨S1024x5632, .i32⟩
  | .hbm, ⟨47, _⟩ => ⟨S1024x5632, .i32⟩
  | .hbm, ⟨48, _⟩ => ⟨S1024x5632, .bf16⟩
  | .hbm, ⟨49, _⟩ => ⟨S1024x5632, .bf16⟩
  | .hbm, ⟨50, _⟩ => ⟨S_, .i32⟩
  | .hbm, ⟨51, _⟩ => ⟨S1024x5632, .i32⟩
  | .hbm, ⟨52, _⟩ => ⟨S1024x5632, .i32⟩
  | .hbm, ⟨53, _⟩ => ⟨S1024x5632, .i8⟩
  | .hbm, ⟨54, _⟩ => ⟨S1024x5632, .i32⟩
  | .hbm, ⟨55, _⟩ => ⟨S_, .i32⟩
  | .hbm, ⟨56, _⟩ => ⟨S1024x5632, .i32⟩
  | .hbm, ⟨57, _⟩ => ⟨S1024x5632, .i1⟩
  | .hbm, ⟨58, _⟩ => ⟨S_, .i32⟩
  | .hbm, ⟨59, _⟩ => ⟨S1024x5632, .i32⟩
  | .hbm, ⟨60, _⟩ => ⟨S1024x5632, .i32⟩
  | .hbm, ⟨61, _⟩ => ⟨S1024x5632, .i32⟩
  | .hbm, ⟨62, _⟩ => ⟨S1024x5632, .bf16⟩
  | .hbm, ⟨63, _⟩ => ⟨S1024x5632, .bf16⟩
  | .hbm, ⟨64, _⟩ => ⟨S12x1024x1024, .bf16⟩
  | .hbm, ⟨65, _⟩ => ⟨S12x1024x5632, .f32⟩
  | .hbm, ⟨66, _⟩ => ⟨S12x1024x1024, .bf16⟩
  | .hbm, ⟨67, _⟩ => ⟨S12x1024x5632, .f32⟩
  | .hbm, ⟨68, _⟩ => ⟨S12x1024x5632, .f32⟩
  | .hbm, ⟨69, _⟩ => ⟨S1x1x5632, .f32⟩
  | .hbm, ⟨70, _⟩ => ⟨S12x1024x5632, .f32⟩
  | .hbm, ⟨71, _⟩ => ⟨S12x1024x5632, .f32⟩
  | .hbm, ⟨72, _⟩ => ⟨S12x1024x5632, .bf16⟩
  | _, _ => ⟨S12x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_c : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_c_0 : Ref sig .tc := ⟨.hbm, 41, rfl⟩
abbrev main_v35 : Ref sig .tc := ⟨.hbm, 42, rfl⟩
abbrev main_v36 : Ref sig .tc := ⟨.hbm, 43, rfl⟩
abbrev main_c_1 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_c_2 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_c_3 : Ref sig .tc := ⟨.hbm, 55, rfl⟩
abbrev main_v46 : Ref sig .tc := ⟨.hbm, 56, rfl⟩
abbrev main_v47 : Ref sig .tc := ⟨.hbm, 57, rfl⟩
abbrev main_c_4 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩

abbrev nD : Nat := 1
abbrev τ : Topo := Topo.v7x

variable {F : FTy → Type} [FloatOps F]
-- ==== Proof.Maths.lean ====
/- The mathematics both programs compute, over plain functions of numbered places: the int4 weight, one butterfly factor
   as a dense matrix and as sums of 16, the rotation, and the linear layer. -/
module

public import Idealize.ShloMosaic.Lib.Pipeline.ValueKit
public import Idealize.ShloMosaic.Lib.Pointwise

@[expose] public section

set_option maxRecDepth 16384

noncomputable section

namespace Cert.Maths

open Idealize.ShloMosaic

/-! ## The weight -/

/-- A four-bit code read as a signed number. -/
def signed (v : BitVec 32) : Ideal .bf16 :=
  FloatOps.sitofp .bf16 (Scalar.select (IntOp.cmpi .sge v 8#32) (IntOp.subi v 16#32) v)

/-- The number in the low four bits of a packed byte. -/
def lo (b : BitVec 8) : EReal := signed (IntOp.andi (BitVec.setWidth 32 b) 15#32)

/-- The number in the high four bits of a packed byte. -/
def hi (b : BitVec 8) : EReal := signed (IntOp.shrsi .vector (BitVec.setWidth 32 b) 4#32)

/-- The dequantised weight: the low codes fill the first 1024 rows, the high codes the last 1024, and each strip of 128
    rows has a row of scales. -/
def wgt (P : Fin 1024 → Fin 5632 → BitVec 8) (S : Fin 16 → Fin 5632 → EReal) (d : Fin 2048) (n : Fin 5632) : EReal :=
  if h : d.val < 1024 then lo (P ⟨d.val, h⟩ n) * S ⟨d.val / 128, by omega⟩ n
  else hi (P ⟨d.val - 1024, by omega⟩ n) * S ⟨d.val / 128, by omega⟩ n

/-! ## One factor of the rotation -/

/-- The stride of factor `i`. -/
abbrev st (i : Fin 3) : ℕ := 2 ^ i.val

/-- The width of one group of factor `i`: 16 strides. -/
abbrev wd (i : Fin 3) : ℕ := 16 * 2 ^ i.val

/-- The row of 256 block rows that row `r` of a dense factor reads. -/
def src (i : Fin 3) (r : ℕ) : ℕ := r / wd i * wd i + r % st i * 16 + r % wd i / st i

theorem src_lt : ∀ (i : Fin 3) (r : Fin 256), src i r < 256 := by decide +kernel

theorem col_lt : ∀ (i : Fin 3) (q : Fin 256), q.val % wd i / st i < 16 := by decide +kernel

/-- The dense factor `i` over the `k`-th 256 columns, at row `r` and column `q`. -/
def fac (B : Fin 3 → Fin 2048 → Fin 16 → EReal) (i : Fin 3) (k : Fin 8) (r q : Fin 256) : EReal :=
  if r.val / wd i = q.val / wd i ∧ r.val % st i = q.val % st i then
    B i ⟨k.val * 256 + src i r, by have := src_lt i r; have := k.isLt; omega⟩ ⟨q.val % wd i / st i, col_lt i q⟩
  else 0

/-- One factor, as the product with its dense matrices. -/
def step (B : Fin 3 → Fin 2048 → Fin 16 → EReal) (i : Fin 3) (z : Fin 2048 → EReal) (col : Fin 2048) : EReal :=
  ∑ r : Fin 256, z ⟨col.val / 256 * 256 + r.val, by omega⟩
    * fac B i ⟨col.val / 256, by omega⟩ r ⟨col.val % 256, by omega⟩

theorem read_lt : ∀ (i : Fin 3) (q : Fin 256) (j : Fin 16),
    q.val / wd i * wd i + j.val * st i + q.val % st i < 256 := by decide +kernel

theorem row_lt : ∀ (i : Fin 3) (q : Fin 256) (j : Fin 16),
    q.val / wd i * wd i + q.val % st i * 16 + j.val < 256 := by decide +kernel

theorem read_div : ∀ (i : Fin 3) (q : Fin 256) (j : Fin 16),
    (q.val / wd i * wd i + j.val * st i + q.val % st i) / wd i = q.val / wd i := by decide +kernel

theorem read_mod : ∀ (i : Fin 3) (q : Fin 256) (j : Fin 16),
    (q.val / wd i * wd i + j.val * st i + q.val % st i) % st i = q.val % st i := by decide +kernel

theorem read_src : ∀ (i : Fin 3) (q : Fin 256) (j : Fin 16),
    src i (q.val / wd i * wd i + j.val * st i + q.val % st i) = q.val / wd i * wd i + q.val % st i * 16 + j.val := by
  decide +kernel

theorem read_inj : ∀ (i : Fin 3) (q : Fin 256) (j : Fin 16),
    (q.val / wd i * wd i + j.val * st i + q.val % st i) % wd i / st i = j.val := by decide +kernel

theorem row_split : ∀ (i : Fin 3) (r : Fin 256),
    r.val = r.val / wd i * wd i + r.val % wd i / st i * st i + r.val % st i := by decide +kernel

/-- The same factor as sums of 16: column `col` reads the 16 columns of its group at its phase of the stride, against the
    16 rows of the block of that group and phase. -/
def bfly (B : Fin 3 → Fin 2048 → Fin 16 → EReal) (i : Fin 3) (z : Fin 2048 → EReal) (col : Fin 2048) : EReal :=
  ∑ j : Fin 16,
    z ⟨col.val / 256 * 256 + (col.val % 256 / wd i * wd i + j.val * st i + col.val % 256 % st i), by
        have := read_lt i ⟨col.val % 256, by omega⟩ j; dsimp only at this; omega⟩
    * B i ⟨col.val / 256 * 256 + (col.val % 256 / wd i * wd i + col.val % 256 % st i * 16 + j.val), by
        have := row_lt i ⟨col.val % 256, by omega⟩ j; dsimp only at this; omega⟩
        ⟨col.val % 256 % wd i / st i, col_lt i ⟨col.val % 256, by omega⟩⟩

/-- A factor's product with its dense matrices is its sums of 16: the 240 other places of each dense column hold 0. -/
theorem step_eq_bfly (B : Fin 3 → Fin 2048 → Fin 16 → EReal) (i : Fin 3) (z : Fin 2048 → EReal) (col : Fin 2048) :
    step B i z col = bfly B i z col := by
  unfold step bfly
  set q : Fin 256 := ⟨col.val % 256, by omega⟩ with hq
  symm
  refine Finset.sum_of_injOn (fun j => (⟨q.val / wd i * wd i + j.val * st i + q.val % st i, read_lt i q j⟩ : Fin 256)) ?_ ?_ ?_ ?_
  · intro a _ b _ hab
    have h := congrArg (fun x : Fin 256 => x.val % wd i / st i) hab
    dsimp only at h
    rw [read_inj i q a, read_inj i q b] at h
    exact Fin.ext h
  · intro _ _; simp
  · intro r _ hr
    unfold fac
    rw [if_neg, mul_zero]
    rintro ⟨h1, h2⟩
    refine hr ⟨⟨r.val % wd i / st i, col_lt i r⟩, by simp, Fin.ext ?_⟩
    show q.val / wd i * wd i + r.val % wd i / st i * st i + q.val % st i = r.val
    rw [← h1, ← h2]
    exact (row_split i r).symm
  · intro j _
    unfold fac
    rw [if_pos ⟨read_div i q j, read_mod i q j⟩]
    refine congrArg₂ (· * ·) rfl ?_
    refine congrArg₂ (B i) (Fin.ext ?_) rfl
    show _ = col.val / 256 * 256 + src i _
    rw [read_src i q j]

/-! ## The rotation and the layer -/

/-- The rotation of a row: the three factors in turn. -/
def rot (B : Fin 3 → Fin 2048 → Fin 16 → EReal) (x : Fin 2048 → EReal) : Fin 2048 → EReal :=
  step B 2 (step B 1 (step B 0 x))

/-- The rotation by sums of 16. -/
theorem rot_eq (B : Fin 3 → Fin 2048 → Fin 16 → EReal) (x : Fin 2048 → EReal) :
    rot B x = bfly B 2 (bfly B 1 (bfly B 0 x)) := by
  unfold rot
  rw [funext (step_eq_bfly B 0 x), funext (step_eq_bfly B 1 _), funext (step_eq_bfly B 2 _)]

/-- The linear layer at column `n` of a rotated row. -/
def lin (P : Fin 1024 → Fin 5632 → BitVec 8) (S : Fin 16 → Fin 5632 → EReal) (O : Fin 5632 → EReal)
    (v : Fin 2048 → EReal) (n : Fin 5632) : EReal :=
  (∑ k : Fin 2048, v k * wgt P S k n) * O n

end Cert.Maths

end
-- ==== Proof.Dense.lean ====
/- One dense factor of the rotation: the integer bookkeeping the body writes out, and what the 256 × 256 matrix it
   builds from 256 rows of a factor's blocks holds at each of its places. -/
module

public import proofs.«01_k».proof.Proof.Maths
public import proofs.«01_k».proof.Proof.Gen.KernelIdeal.Skeleton
public import Idealize.ShloMosaic.Lib.Pipeline.ValueKit
public import Idealize.ShloMosaic.Lib.Pointwise
public import Idealize.ShloMosaic.Lib.WordCmp

@[expose] public section

set_option maxRecDepth 16384

noncomputable section

namespace Cert.KernelIdeal.Dense

open Idealize.ShloMosaic Idealize.ShloMosaic.TcCoe Cert.Maths Cert.KernelIdeal Cert.KernelIdeal.Gen

/-! ## Floor division and floor remainder, as the body spells them -/

section Words

variable {s : Shape}

/-- Floor division by a constant, as the body spells it: the truncated quotient, less one where the signs differ and
    something is left over. -/
def fdivV (x : IVec s 32) (c : BitVec 32) : IVec s 32 :=
  select
    (andi
      (cmpi .ne
        (subi (extui 32 (cmpi .sgt x (broadcast s 0#32)) natLt_1_32) (extui 32 (cmpi .slt x (broadcast s 0#32)) natLt_1_32))
        (broadcast s (Scalar.subi (Scalar.extui (Scalar.cmpi .sgt c 0#32)) (Scalar.extui (Scalar.cmpi .slt c 0#32)))))
      (cmpi .ne (remsi x (broadcast s c)) (broadcast s 0#32)))
    (subi (divsi x (broadcast s c)) (broadcast s 1#32))
    (divsi x (broadcast s c))

/-- Floor remainder by a constant, as the body spells it: the truncated remainder, plus the divisor where the signs
    differ. -/
def fmodV (hb : s.Broadcasts s) (x : IVec s 32) (c : BitVec 32) : IVec s 32 :=
  select
    (andi
      (xori
        (cmpi .slt (remsi x (broadcast s (Scalar.select (Scalar.cmpi .eq c 0#32) 1#32 c))) (broadcast s 0#32))
        (broadcastTo s (broadcast s (Scalar.cmpi .slt (Scalar.select (Scalar.cmpi .eq c 0#32) 1#32 c) 0#32)) hb))
      (cmpi .ne (remsi x (broadcast s (Scalar.select (Scalar.cmpi .eq c 0#32) 1#32 c))) (broadcast s 0#32)))
    (addi (remsi x (broadcast s (Scalar.select (Scalar.cmpi .eq c 0#32) 1#32 c)))
      (broadcast s (Scalar.select (Scalar.cmpi .eq c 0#32) 1#32 c)))
    (remsi x (broadcast s (Scalar.select (Scalar.cmpi .eq c 0#32) 1#32 c)))

end Words

variable {F : FTy → Type} [FloatOps F]

/-- The dense 256 × 256 matrix of one factor over 256 rows of its blocks, as the body builds it: `t` is the factor's
    stride and `sp = 16 t` the width of one group.  A product with a 0/1 matrix picks the row each output row reads, a
    product with another spreads the 16 columns, and a mask keeps the group's own places. -/
def dense (t sp : BitVec 32) (blk : FVec F S1x256x16 .bf16) : FVec F S1x1x256x256 .bf16 :=
  shapeCast S1x1x256x256
    (truncf .bf16
      (select
        (andi
          (cmpi .eq (fdivV (iota .tc S256x256 32 [0] iota_S256x256_d0_w32) sp) (fdivV (iota .tc S256x256 32 [1] iota_S256x256_d1_w32) sp))
          (cmpi .eq (fmodV broadcasts_S256x256_S256x256 (iota .tc S256x256 32 [0] iota_S256x256_d0_w32) t)
            (fmodV broadcasts_S256x256_S256x256 (iota .tc S256x256 32 [1] iota_S256x256_d1_w32) t)))
        (matmul dot_S256x16_S16x256_S256x256_1_0_0_1_n_n none
          (truncf .bf16
            (matmul dot_S256x256_S256x16_S256x16_1_0_0_1_n_n none
              (truncf .bf16
                (select
                  (cmpi .eq
                    (addi
                      (addi (muli (fdivV (iota .tc S256x256 32 [0] iota_S256x256_d0_w32) sp) (broadcast S256x256 sp))
                        (muli (fmodV broadcasts_S256x256_S256x256 (iota .tc S256x256 32 [0] iota_S256x256_d0_w32) t) (broadcast S256x256 16#32)))
                      (fdivV (fmodV broadcasts_S256x256_S256x256 (iota .tc S256x256 32 [0] iota_S256x256_d0_w32) sp) t))
                    (iota .tc S256x256 32 [1] iota_S256x256_d1_w32))
                  (broadcast S256x256 (Scalar.ofBits .f32 0x3F800000#32 : F .f32))
                  (broadcast S256x256 (Scalar.ofBits .f32 0x00000000#32 : F .f32)))
                bitsLt_bf16_f32)
              (shapeCast S256x16 blk shapeCasts_S1x256x16_S256x16)
              (constant S256x16 .f32 0x00000000#32))
            bitsLt_bf16_f32)
          (truncf .bf16
            (select
              (cmpi .eq (iota .tc S16x256 32 [0] iota_S16x256_d0_w32)
                (fdivV (fmodV broadcasts_S16x256_S16x256 (iota .tc S16x256 32 [1] iota_S16x256_d1_w32) sp) t))
              (broadcast S16x256 (Scalar.ofBits .f32 0x3F800000#32 : F .f32))
              (broadcast S16x256 (Scalar.ofBits .f32 0x00000000#32 : F .f32)))
            bitsLt_bf16_f32)
          (constant S256x256 .f32 0x00000000#32))
        (broadcast S256x256 (Scalar.ofBits .f32 0x00000000#32 : F .f32)))
      bitsLt_bf16_f32)
    shapeCasts_S256x256_S1x1x256x256

/-! ## What those spellings are on the numbers below 256 -/

/-- `fdivV` at a place. -/
def fdivS (x c : BitVec 32) : BitVec 32 :=
  Scalar.select
    (Scalar.andi
      (Scalar.cmpi .ne
        (Scalar.subi (Scalar.extui (Scalar.cmpi .sgt x 0#32)) (Scalar.extui (Scalar.cmpi .slt x 0#32)))
        (Scalar.subi (Scalar.extui (Scalar.cmpi .sgt c 0#32)) (Scalar.extui (Scalar.cmpi .slt c 0#32))))
      (Scalar.cmpi .ne (Scalar.remsi x c) 0#32))
    (Scalar.subi (Scalar.divsi x c) 1#32)
    (Scalar.divsi x c)

/-- `fmodV` at a place. -/
def fmodS (x c : BitVec 32) : BitVec 32 :=
  Scalar.select
    (Scalar.andi
      (Scalar.xori
        (Scalar.cmpi .slt (Scalar.remsi x (Scalar.select (Scalar.cmpi .eq c 0#32) 1#32 c)) 0#32)
        (Scalar.cmpi .slt (Scalar.select (Scalar.cmpi .eq c 0#32) 1#32 c) 0#32))
      (Scalar.cmpi .ne (Scalar.remsi x (Scalar.select (Scalar.cmpi .eq c 0#32) 1#32 c)) 0#32))
    (Scalar.addi (Scalar.remsi x (Scalar.select (Scalar.cmpi .eq c 0#32) 1#32 c))
      (Scalar.select (Scalar.cmpi .eq c 0#32) 1#32 c))
    (Scalar.remsi x (Scalar.select (Scalar.cmpi .eq c 0#32) 1#32 c))

theorem fdivV_apply {s : Shape} (x : IVec s 32) (c : BitVec 32) (j : s.Idx) : fdivV x c j = fdivS (x j) c := rfl

theorem fmodV_apply {s : Shape} (hb : s.Broadcasts s) (x : IVec s 32) (c : BitVec 32) (j : s.Idx) :
    fmodV hb x c j = fmodS (x j) c := rfl

theorem fdiv_wd : ∀ (i : Fin 3) (r : Fin 256),
    fdivS (BitVec.ofNat 32 r) (BitVec.ofNat 32 (wd i)) = BitVec.ofNat 32 (r / wd i) := by decide +kernel

theorem fmod_st : ∀ (i : Fin 3) (r : Fin 256),
    fmodS (BitVec.ofNat 32 r) (BitVec.ofNat 32 (st i)) = BitVec.ofNat 32 (r % st i) := by decide +kernel

theorem fdiv_fmod : ∀ (i : Fin 3) (r : Fin 256),
    fdivS (fmodS (BitVec.ofNat 32 r) (BitVec.ofNat 32 (wd i))) (BitVec.ofNat 32 (st i))
      = BitVec.ofNat 32 (r % wd i / st i) := by decide +kernel

theorem src_word : ∀ (i : Fin 3) (r : Fin 256),
    IntOp.addi
        (IntOp.addi (IntOp.muli (BitVec.ofNat 32 (r / wd i)) (BitVec.ofNat 32 (wd i)))
          (IntOp.muli (BitVec.ofNat 32 (r % st i)) 16#32))
        (BitVec.ofNat 32 (r % wd i / st i))
      = BitVec.ofNat 32 (src i r) := by decide +kernel

/-- A sum over a 0/1 row keeps the one place the row marks. -/
theorem sum_onehot {n : ℕ} (hn : n ≤ 2 ^ 32) (a : ℕ) (ha : a < n) (f : Fin n → EReal) :
    ∑ x : Fin n, Scalar.select (IntOp.cmpi .eq (BitVec.ofNat 32 a) (BitVec.ofNat 32 x)) (f x) 0 = f ⟨a, ha⟩ := by
  have h : ∀ x : Fin n, Scalar.select (IntOp.cmpi .eq (BitVec.ofNat 32 a) (BitVec.ofNat 32 x)) (f x) 0
      = if (⟨a, ha⟩ : Fin n) = x then f x else 0 := fun x => by
    show (if _ = 1#1 then _ else _) = _
    refine if_congr ?_ rfl rfl
    rw [WordCmp.cmpi_eq_ofNat_eq_one_iff (by omega) (by omega), Fin.ext_iff]
  rw [Finset.sum_congr rfl fun x _ => h x, Finset.sum_ite_eq]
  simp

/-- The same with the row's word on the left. -/
theorem sum_onehot' {n : ℕ} (hn : n ≤ 2 ^ 32) (a : ℕ) (ha : a < n) (f : Fin n → EReal) :
    ∑ x : Fin n, Scalar.select (IntOp.cmpi .eq (BitVec.ofNat 32 x) (BitVec.ofNat 32 a)) (f x) 0 = f ⟨a, ha⟩ := by
  rw [← sum_onehot hn a ha f]
  refine Finset.sum_congr rfl fun x _ => ?_
  show (if _ = 1#1 then _ else _) = (if _ = 1#1 then _ else _)
  refine if_congr ?_ rfl rfl
  rw [WordCmp.cmpi_eq_ofNat_eq_one_iff (by omega) (by omega), WordCmp.cmpi_eq_ofNat_eq_one_iff (by omega) (by omega), eq_comm]

/-- The mask: both comparisons at once. -/
theorem select_both {a b c d : ℕ} (ha : a < 2 ^ 32) (hb : b < 2 ^ 32) (hc : c < 2 ^ 32) (hd : d < 2 ^ 32) (x y : EReal) :
    Scalar.select
      (IntOp.andi (IntOp.cmpi .eq (BitVec.ofNat 32 a) (BitVec.ofNat 32 b)) (IntOp.cmpi .eq (BitVec.ofNat 32 c) (BitVec.ofNat 32 d)))
      x y = if a = b ∧ c = d then x else y := by
  rw [WordCmp.cmpi_eq_ofNat ha hb, WordCmp.cmpi_eq_ofNat hc hd]
  by_cases h1 : a = b <;> by_cases h2 : c = d <;> simp [h1, h2] <;> rfl

/-- THE DENSE FACTOR: row `r`, column `q` of the matrix holds the block entry of row `src i r` and column `q`'s place in
    its group, where `r` and `q` are in one group and at one phase of the stride; elsewhere 0. -/
theorem dense_at (i : Fin 3) (t sp : BitVec 32) (ht : t = BitVec.ofNat 32 (st i)) (hs : sp = BitVec.ofNat 32 (wd i))
    (blk : FVec Ideal S1x256x16 .bf16) (r q : Fin 256) :
    dense t sp blk (ix4 0 0 r q : S1x1x256x256.Idx)
      = if r.val / wd i = q.val / wd i ∧ r.val % st i = q.val % st i then
          blk (ix3 0 ⟨src i r, src_lt i r⟩ ⟨q.val % wd i / st i, col_lt i q⟩) else 0 := by
  have hr := r.isLt
  have hq := q.isLt
  have b1 : ∀ n m : ℕ, n < 256 → n / m < 2 ^ 32 := fun n m h => lt_of_le_of_lt (Nat.div_le_self _ _) (by omega)
  have b2 : ∀ n m : ℕ, n < 256 → n % m < 2 ^ 32 := fun n m h => lt_of_le_of_lt (Nat.mod_le _ _) (by omega)
  subst ht hs
  pointwise [dense, fdivV_apply, fmodV_apply, fdiv_wd, fmod_st, fdiv_fmod, src_word]
  rw [select_both (b1 _ _ hr) (b1 _ _ hq) (b2 _ _ hr) (b2 _ _ hq)]
  refine if_congr Iff.rfl ?_ rfl
  rw [sum_onehot' (by norm_num) _ (col_lt i q)]
  exact sum_onehot (by norm_num) _ (src_lt i r) fun x => blk (ix3 0 x ⟨q.val % wd i / st i, col_lt i q⟩)

end Cert.KernelIdeal.Dense

end
-- ==== Proof.Scratch.lean ====
/- What the first grid point leaves in the two scratch arrays: the 24 dense factors, side by side, and the dequantised
   weight.  The stored pieces are the body's own; each is one dense factor, or one 128-row strip of codes times scales. -/
module

public import proofs.«01_k».proof.Proof.Dense
public import proofs.«01_k».proof.Proof.Gen.KernelIdeal.Frame

@[expose] public section

set_option maxRecDepth 16384

noncomputable section

namespace Cert.KernelIdeal.Scratch

open Idealize.ShloMosaic Idealize.ShloMosaic.TcCoe Cert.Maths Cert.KernelIdeal Cert.KernelIdeal.Gen Cert.KernelIdeal.Dense

/-! ## The dense factors -/

section Factors

variable {F : FTy → Type} [FloatOps F]

/-- 256 rows of factor `i`'s blocks, from row `r` on, as the body loads them. -/
def blkAt (arg2 : Memref sig .tc .vmem S3x2048x16 .bf16) (harg2 : arg2.IsWhole) (x1 : Vec F S3x2048x16 .bf16) (i r : ℕ)
    (h : ∀ a, (![i, r, 0] : Fin 3 → ℕ) a + S1x256x16.size a ≤ S3x2048x16.size a) : FVec F S1x256x16 .bf16 :=
  View.readAt (Elt F) arg2.view (Rect.unit (s := S3x2048x16) ![i, r, 0] S1x256x16.size h).toLoadRect (harg2.unread x1)

/-- The 24 pieces the body stores into the factors' scratch (last first) are the 24 dense factors. -/
theorem facs_eq (c : Dev nD) (arg2 : Memref sig .tc .vmem S3x2048x16 .bf16) (harg2 : arg2.IsWhole) (x1 : Vec F S3x2048x16 .bf16) :
    kernelRun0_A.sl.HS1_24 c arg2 harg2 x1 = [
      ⟨Rect.unit ![2, 7, 0, 0] S1x1x256x256.size inb_S3x8x256x256_S1x1x256x256_2_7_0_0,
        dense 4#32 64#32 (blkAt arg2 harg2 x1 2 1792 inb_S3x2048x16_S1x256x16_2_1792_0)⟩,
      ⟨Rect.unit ![2, 6, 0, 0] S1x1x256x256.size inb_S3x8x256x256_S1x1x256x256_2_6_0_0,
        dense 4#32 64#32 (blkAt arg2 harg2 x1 2 1536 inb_S3x2048x16_S1x256x16_2_1536_0)⟩,
      ⟨Rect.unit ![2, 5, 0, 0] S1x1x256x256.size inb_S3x8x256x256_S1x1x256x256_2_5_0_0,
        dense 4#32 64#32 (blkAt arg2 harg2 x1 2 1280 inb_S3x2048x16_S1x256x16_2_1280_0)⟩,
      ⟨Rect.unit ![2, 4, 0, 0] S1x1x256x256.size inb_S3x8x256x256_S1x1x256x256_2_4_0_0,
        dense 4#32 64#32 (blkAt arg2 harg2 x1 2 1024 inb_S3x2048x16_S1x256x16_2_1024_0)⟩,
      ⟨Rect.unit ![2, 3, 0, 0] S1x1x256x256.size inb_S3x8x256x256_S1x1x256x256_2_3_0_0,
        dense 4#32 64#32 (blkAt arg2 harg2 x1 2 768 inb_S3x2048x16_S1x256x16_2_768_0)⟩,
      ⟨Rect.unit ![2, 2, 0, 0] S1x1x256x256.size inb_S3x8x256x256_S1x1x256x256_2_2_0_0,
        dense 4#32 64#32 (blkAt arg2 harg2 x1 2 512 inb_S3x2048x16_S1x256x16_2_512_0)⟩,
      ⟨Rect.unit ![2, 1, 0, 0] S1x1x256x256.size inb_S3x8x256x256_S1x1x256x256_2_1_0_0,
        dense 4#32 64#32 (blkAt arg2 harg2 x1 2 256 inb_S3x2048x16_S1x256x16_2_256_0)⟩,
      ⟨Rect.unit ![2, 0, 0, 0] S1x1x256x256.size inb_S3x8x256x256_S1x1x256x256_2_0_0_0,
        dense 4#32 64#32 (blkAt arg2 harg2 x1 2 0 inb_S3x2048x16_S1x256x16_2_0_0)⟩,
      ⟨Rect.unit ![1, 7, 0, 0] S1x1x256x256.size inb_S3x8x256x256_S1x1x256x256_1_7_0_0,
        dense 2#32 32#32 (blkAt arg2 harg2 x1 1 1792 inb_S3x2048x16_S1x256x16_1_1792_0)⟩,
      ⟨Rect.unit ![1, 6, 0, 0] S1x1x256x256.size inb_S3x8x256x256_S1x1x256x256_1_6_0_0,
        dense 2#32 32#32 (blkAt arg2 harg2 x1 1 1536 inb_S3x2048x16_S1x256x16_1_1536_0)⟩,
      ⟨Rect.unit ![1, 5, 0, 0] S1x1x256x256.size inb_S3x8x256x256_S1x1x256x256_1_5_0_0,
        dense 2#32 32#32 (blkAt arg2 harg2 x1 1 1280 inb_S3x2048x16_S1x256x16_1_1280_0)⟩,
      ⟨Rect.unit ![1, 4, 0, 0] S1x1x256x256.size inb_S3x8x256x256_S1x1x256x256_1_4_0_0,
        dense 2#32 32#32 (blkAt arg2 harg2 x1 1 1024 inb_S3x2048x16_S1x256x16_1_1024_0)⟩,
      ⟨Rect.unit ![1, 3, 0, 0] S1x1x256x256.size inb_S3x8x256x256_S1x1x256x256_1_3_0_0,
        dense 2#32 32#32 (blkAt arg2 harg2 x1 1 768 inb_S3x2048x16_S1x256x16_1_768_0)⟩,
      ⟨Rect.unit ![1, 2, 0, 0] S1x1x256x256.size inb_S3x8x256x256_S1x1x256x256_1_2_0_0,
        dense 2#32 32#32 (blkAt arg2 harg2 x1 1 512 inb_S3x2048x16_S1x256x16_1_512_0)⟩,
      ⟨Rect.unit ![1, 1, 0, 0] S1x1x256x256.size inb_S3x8x256x256_S1x1x256x256_1_1_0_0,
        dense 2#32 32#32 (blkAt arg2 harg2 x1 1 256 inb_S3x2048x16_S1x256x16_1_256_0)⟩,
      ⟨Rect.unit ![1, 0, 0, 0] S1x1x256x256.size inb_S3x8x256x256_S1x1x256x256_1_0_0_0,
        dense 2#32 32#32 (blkAt arg2 harg2 x1 1 0 inb_S3x2048x16_S1x256x16_1_0_0)⟩,
      ⟨Rect.unit ![0, 7, 0, 0] S1x1x256x256.size inb_S3x8x256x256_S1x1x256x256_0_7_0_0,
        dense 1#32 16#32 (blkAt arg2 harg2 x1 0 1792 inb_S3x2048x16_S1x256x16_0_1792_0)⟩,
      ⟨Rect.unit ![0, 6, 0, 0] S1x1x256x256.size inb_S3x8x256x256_S1x1x256x256_0_6_0_0,
        dense 1#32 16#32 (blkAt arg2 harg2 x1 0 1536 inb_S3x2048x16_S1x256x16_0_1536_0)⟩,
      ⟨Rect.unit ![0, 5, 0, 0] S1x1x256x256.size inb_S3x8x256x256_S1x1x256x256_0_5_0_0,
        dense 1#32 16#32 (blkAt arg2 harg2 x1 0 1280 inb_S3x2048x16_S1x256x16_0_1280_0)⟩,
      ⟨Rect.unit ![0, 4, 0, 0] S1x1x256x256.size inb_S3x8x256x256_S1x1x256x256_0_4_0_0,
        dense 1#32 16#32 (blkAt arg2 harg2 x1 0 1024 inb_S3x2048x16_S1x256x16_0_1024_0)⟩,
      ⟨Rect.unit ![0, 3, 0, 0] S1x1x256x256.size inb_S3x8x256x256_S1x1x256x256_0_3_0_0,
        dense 1#32 16#32 (blkAt arg2 harg2 x1 0 768 inb_S3x2048x16_S1x256x16_0_768_0)⟩,
      ⟨Rect.unit ![0, 2, 0, 0] S1x1x256x256.size inb_S3x8x256x256_S1x1x256x256_0_2_0_0,
        dense 1#32 16#32 (blkAt arg2 harg2 x1 0 512 inb_S3x2048x16_S1x256x16_0_512_0)⟩,
      ⟨Rect.unit ![0, 1, 0, 0] S1x1x256x256.size inb_S3x8x256x256_S1x1x256x256_0_1_0_0,
        dense 1#32 16#32 (blkAt arg2 harg2 x1 0 256 inb_S3x2048x16_S1x256x16_0_256_0)⟩,
      ⟨Rect.unit ![0, 0, 0, 0] S1x1x256x256.size inb_S3x8x256x256_S1x1x256x256_0_0_0_0,
        dense 1#32 16#32 (blkAt arg2 harg2 x1 0 0 inb_S3x2048x16_S1x256x16_0_0_0)⟩] := rfl

end Factors

/-- The blocks by factor, row and column. -/
abbrev cur (B : FVec Ideal S3x2048x16 .bf16) : Fin 3 → Fin 2048 → Fin 16 → EReal := fun i r b => B (ix3 i r b)

/-- The scratch of dense factors, as an array. -/
def facs (B : FVec Ideal S3x2048x16 .bf16) : FVec Ideal S3x8x256x256 .bf16 := fun j => fac (cur B) (j 0) (j 1) (j 2) (j 3)

/-- One stored piece, read where it lands. -/
theorem fac_piece (arg2 : Memref sig .tc .vmem S3x2048x16 .bf16) (harg2 : arg2.IsWhole) (x1 : FVec Ideal S3x2048x16 .bf16)
    (t sp : BitVec 32) (i' r' : ℕ) (hin) (i : Fin 3) (k : Fin 8) (r q : Fin 256) (x : S1x1x256x256.Idx)
    (hi : i.val = i') (hk : k.val * 256 = r') (hr : r.val = (x 2).val) (hq : q.val = (x 3).val)
    (ht : t = BitVec.ofNat 32 (2 ^ i')) (hs : sp = BitVec.ofNat 32 (16 * 2 ^ i')) :
    dense (F := Ideal) t sp (blkAt arg2 harg2 x1 i' r' hin) x = fac (cur x1) i k r q := by
  subst hi hk
  obtain rfl : x = ix4 0 0 r q := by
    rw [eq_ix4 x]
    exact (ix4_inj ..).2 ⟨Subsingleton.elim _ _, Subsingleton.elim _ _, Fin.ext hr.symm, Fin.ext hq.symm⟩
  rw [dense_at i t sp ht hs]
  unfold fac blkAt
  refine if_congr Iff.rfl ?_ rfl
  rw [View.readAt_eq_ld, harg2.read_unread]
  refine congrArg x1 ?_
  idx_ext

/-- What the 24 stores leave, at a place. -/
theorem facs_canon (c : Dev nD) (arg2 : Memref sig .tc .vmem S3x2048x16 .bf16) (harg2 : arg2.IsWhole)
    (x1 : FVec Ideal S3x2048x16 .bf16) (i : Fin 3) (k : Fin 8) (r q : Fin 256) :
    View.canon (kernelRun0_A.sl.HS1_24 (F := Ideal) c arg2 harg2 x1) (ix4 i k r q : S3x8x256x256.Idx) = fac (cur x1) i k r q := by
  rw [facs_eq]
  canon_tiles x h
  all_goals
    refine fac_piece arg2 harg2 x1 _ _ _ _ _ i k r q x ?_ ?_ h2 h3 rfl rfl
    · have h0' : i.val = _ := h0; omega
    · have h1' : k.val = _ := h1; omega

/-! ## The dequantised weight -/

section Weight

variable {F : FTy → Type} [FloatOps F]

/-- 128 rows of packed codes, from row `r` on, as the body loads them. -/
def codesAt (arg3 : Memref sig .tc .vmem S1024x5632 .i8) (harg3 : arg3.IsWhole) (x2 : Vec F S1024x5632 .i8) (r : ℕ)
    (h : ∀ a, (![r, 0] : Fin 2 → ℕ) a + S128x5632.size a ≤ S1024x5632.size a) : Vec F S128x5632 .i8 :=
  View.readAt (Elt F) arg3.view (Rect.unit (s := S1024x5632) ![r, 0] S128x5632.size h).toLoadRect (harg3.unread x2)

/-- One row of scales, as the body loads it. -/
def scaleAt (arg4 : Memref sig .tc .vmem S16x5632 .bf16) (harg4 : arg4.IsWhole) (x3 : Vec F S16x5632 .bf16) (r : ℕ)
    (h : ∀ a, (![r, 0] : Fin 2 → ℕ) a + S1x5632.size a ≤ S16x5632.size a) : Vec F S1x5632 .bf16 :=
  View.readAt (Elt F) arg4.view (Rect.unit (s := S16x5632) ![r, 0] S1x5632.size h).toLoadRect (harg4.unread x3)

/-- The 16 pieces the body stores into the weight's scratch (last first): the low and the high codes of each 128 rows,
    times their row of scales. -/
theorem wgts_eq (c : Dev nD) (arg3 : Memref sig .tc .vmem S1024x5632 .i8) (harg3 : arg3.IsWhole)
    (arg4 : Memref sig .tc .vmem S16x5632 .bf16) (harg4 : arg4.IsWhole) (x2 : Vec F S1024x5632 .i8) (x3 : Vec F S16x5632 .bf16) :
    kernelRun0_A.sl.HS0_16 c arg3 harg3 arg4 harg4 x2 x3 = [
      ⟨Rect.unit ![1920, 0] S128x5632.size inb_S2048x5632_S128x5632_1920_0,
        k0_pay443 (k0_pay442 (codesAt arg3 harg3 x2 896 inb_S1024x5632_S128x5632_896_0)) (scaleAt arg4 harg4 x3 15 inb_S16x5632_S1x5632_15_0)⟩,
      ⟨Rect.unit ![896, 0] S128x5632.size inb_S2048x5632_S128x5632_896_0,
        k0_pay441 (codesAt arg3 harg3 x2 896 inb_S1024x5632_S128x5632_896_0) (scaleAt arg4 harg4 x3 7 inb_S16x5632_S1x5632_7_0)⟩,
      ⟨Rect.unit ![1792, 0] S128x5632.size inb_S2048x5632_S128x5632_1792_0,
        k0_pay443 (k0_pay442 (codesAt arg3 harg3 x2 768 inb_S1024x5632_S128x5632_768_0)) (scaleAt arg4 harg4 x3 14 inb_S16x5632_S1x5632_14_0)⟩,
      ⟨Rect.unit ![768, 0] S128x5632.size inb_S2048x5632_S128x5632_768_0,
        k0_pay441 (codesAt arg3 harg3 x2 768 inb_S1024x5632_S128x5632_768_0) (scaleAt arg4 harg4 x3 6 inb_S16x5632_S1x5632_6_0)⟩,
      ⟨Rect.unit ![1664, 0] S128x5632.size inb_S2048x5632_S128x5632_1664_0,
        k0_pay443 (k0_pay442 (codesAt arg3 harg3 x2 640 inb_S1024x5632_S128x5632_640_0)) (scaleAt arg4 harg4 x3 13 inb_S16x5632_S1x5632_13_0)⟩,
      ⟨Rect.unit ![640, 0] S128x5632.size inb_S2048x5632_S128x5632_640_0,
        k0_pay441 (codesAt arg3 harg3 x2 640 inb_S1024x5632_S128x5632_640_0) (scaleAt arg4 harg4 x3 5 inb_S16x5632_S1x5632_5_0)⟩,
      ⟨Rect.unit ![1536, 0] S128x5632.size inb_S2048x5632_S128x5632_1536_0,
        k0_pay443 (k0_pay442 (codesAt arg3 harg3 x2 512 inb_S1024x5632_S128x5632_512_0)) (scaleAt arg4 harg4 x3 12 inb_S16x5632_S1x5632_12_0)⟩,
      ⟨Rect.unit ![512, 0] S128x5632.size inb_S2048x5632_S128x5632_512_0,
        k0_pay441 (codesAt arg3 harg3 x2 512 inb_S1024x5632_S128x5632_512_0) (scaleAt arg4 harg4 x3 4 inb_S16x5632_S1x5632_4_0)⟩,
      ⟨Rect.unit ![1408, 0] S128x5632.size inb_S2048x5632_S128x5632_1408_0,
        k0_pay443 (k0_pay442 (codesAt arg3 harg3 x2 384 inb_S1024x5632_S128x5632_384_0)) (scaleAt arg4 harg4 x3 11 inb_S16x5632_S1x5632_11_0)⟩,
      ⟨Rect.unit ![384, 0] S128x5632.size inb_S2048x5632_S128x5632_384_0,
        k0_pay441 (codesAt arg3 harg3 x2 384 inb_S1024x5632_S128x5632_384_0) (scaleAt arg4 harg4 x3 3 inb_S16x5632_S1x5632_3_0)⟩,
      ⟨Rect.unit ![1280, 0] S128x5632.size inb_S2048x5632_S128x5632_1280_0,
        k0_pay443 (k0_pay442 (codesAt arg3 harg3 x2 256 inb_S1024x5632_S128x5632_256_0)) (scaleAt arg4 harg4 x3 10 inb_S16x5632_S1x5632_10_0)⟩,
      ⟨Rect.unit ![256, 0] S128x5632.size inb_S2048x5632_S128x5632_256_0,
        k0_pay441 (codesAt arg3 harg3 x2 256 inb_S1024x5632_S128x5632_256_0) (scaleAt arg4 harg4 x3 2 inb_S16x5632_S1x5632_2_0)⟩,
      ⟨Rect.unit ![1152, 0] S128x5632.size inb_S2048x5632_S128x5632_1152_0,
        k0_pay443 (k0_pay442 (codesAt arg3 harg3 x2 128 inb_S1024x5632_S128x5632_128_0)) (scaleAt arg4 harg4 x3 9 inb_S16x5632_S1x5632_9_0)⟩,
      ⟨Rect.unit ![128, 0] S128x5632.size inb_S2048x5632_S128x5632_128_0,
        k0_pay441 (codesAt arg3 harg3 x2 128 inb_S1024x5632_S128x5632_128_0) (scaleAt arg4 harg4 x3 1 inb_S16x5632_S1x5632_1_0)⟩,
      ⟨Rect.unit ![1024, 0] S128x5632.size inb_S2048x5632_S128x5632_1024_0,
        k0_pay443 (k0_pay442 (codesAt arg3 harg3 x2 0 inb_S1024x5632_S128x5632_0_0)) (scaleAt arg4 harg4 x3 8 inb_S16x5632_S1x5632_8_0)⟩,
      ⟨Rect.unit ![0, 0] S128x5632.size inb_S2048x5632_S128x5632_0_0,
        k0_pay441 (codesAt arg3 harg3 x2 0 inb_S1024x5632_S128x5632_0_0) (scaleAt arg4 harg4 x3 0 inb_S16x5632_S1x5632_0_0)⟩] := rfl

end Weight

/-- The scratch of weights, as an array. -/
def wgts (P : Vec Ideal S1024x5632 .i8) (S : FVec Ideal S16x5632 .bf16) : FVec Ideal S2048x5632 .bf16 :=
  fun j => wgt (fun d n => P (ix2 d n)) (fun g n => S (ix2 g n)) (j 0) (j 1)

theorem codesAt_apply (arg3 : Memref sig .tc .vmem S1024x5632 .i8) (harg3 : arg3.IsWhole) (x2 : Vec Ideal S1024x5632 .i8)
    (r' : ℕ) (hin) (a : Fin 128) (n : Fin 5632) (d : Fin 1024) (hd : d.val = r' + a.val) :
    codesAt (F := Ideal) arg3 harg3 x2 r' hin (ix2 a n) = x2 (ix2 d n) := by
  unfold codesAt
  rw [View.readAt_eq_ld, harg3.read_unread]
  refine congrArg x2 ?_
  idx_ext

theorem scaleAt_apply (arg4 : Memref sig .tc .vmem S16x5632 .bf16) (harg4 : arg4.IsWhole) (x3 : FVec Ideal S16x5632 .bf16)
    (g : ℕ) (hin) (n : Fin 5632) (d : Fin 16) (hd : d.val = g) :
    scaleAt (F := Ideal) arg4 harg4 x3 g hin (ix2 0 n) = x3 (ix2 d n) := by
  unfold scaleAt
  rw [View.readAt_eq_ld, harg4.read_unread]
  refine congrArg x3 ?_
  idx_ext

/-- A strip of low codes, read where it lands. -/
theorem lo_piece (arg3 : Memref sig .tc .vmem S1024x5632 .i8) (harg3 : arg3.IsWhole)
    (arg4 : Memref sig .tc .vmem S16x5632 .bf16) (harg4 : arg4.IsWhole) (x2 : Vec Ideal S1024x5632 .i8)
    (x3 : FVec Ideal S16x5632 .bf16) (r' g : ℕ) (hin) (hin') (d : Fin 2048) (n : Fin 5632) (x : S128x5632.Idx)
    (hd : d.val = r' + (x 0).val) (hn : n.val = (x 1).val) (hg : r' = 128 * g) (hg' : g < 8) :
    k0_pay441 (F := Ideal) (codesAt arg3 harg3 x2 r' hin) (scaleAt arg4 harg4 x3 g hin') x
      = wgt (fun d n => x2 (ix2 d n)) (fun g n => x3 (ix2 g n)) d n := by
  obtain ⟨a, b, rfl⟩ : ∃ (a : Fin 128) (b : Fin 5632), x = ix2 a b := ⟨x 0, x 1, eq_ix2 x⟩
  have hd' : d.val = r' + a.val := hd
  obtain rfl : n = b := Fin.ext hn
  have ha := a.isLt
  have hdl := d.isLt
  pointwise [k0_pay441, k0_pay440]
  unfold wgt
  rw [dif_pos (by omega), codesAt_apply arg3 harg3 x2 r' hin a n ⟨d.val, by omega⟩ (by dsimp only; omega),
    scaleAt_apply arg4 harg4 x3 g hin' n ⟨d.val / 128, by omega⟩ (by dsimp only; omega)]
  rfl

/-- A strip of high codes, read where it lands. -/
theorem hi_piece (arg3 : Memref sig .tc .vmem S1024x5632 .i8) (harg3 : arg3.IsWhole)
    (arg4 : Memref sig .tc .vmem S16x5632 .bf16) (harg4 : arg4.IsWhole) (x2 : Vec Ideal S1024x5632 .i8)
    (x3 : FVec Ideal S16x5632 .bf16) (r' g : ℕ) (hin) (hin') (d : Fin 2048) (n : Fin 5632) (x : S128x5632.Idx)
    (hd : d.val = 1024 + r' + (x 0).val) (hn : n.val = (x 1).val) (hg : 1024 + r' = 128 * g) :
    k0_pay443 (F := Ideal) (k0_pay442 (codesAt arg3 harg3 x2 r' hin)) (scaleAt arg4 harg4 x3 g hin') x
      = wgt (fun d n => x2 (ix2 d n)) (fun g n => x3 (ix2 g n)) d n := by
  obtain ⟨a, b, rfl⟩ : ∃ (a : Fin 128) (b : Fin 5632), x = ix2 a b := ⟨x 0, x 1, eq_ix2 x⟩
  have hd' : d.val = 1024 + r' + a.val := hd
  obtain rfl : n = b := Fin.ext hn
  have ha := a.isLt
  have hdl := d.isLt
  pointwise [k0_pay443, k0_pay442, k0_pay440]
  unfold wgt
  rw [dif_neg (by omega), codesAt_apply arg3 harg3 x2 r' hin a n ⟨d.val - 1024, by omega⟩ (by dsimp only; omega),
    scaleAt_apply arg4 harg4 x3 g hin' n ⟨d.val / 128, by omega⟩ (by dsimp only; omega)]
  rfl

/-- What the 16 stores leave, at a place. -/
theorem wgts_canon (c : Dev nD) (arg3 : Memref sig .tc .vmem S1024x5632 .i8) (harg3 : arg3.IsWhole)
    (arg4 : Memref sig .tc .vmem S16x5632 .bf16) (harg4 : arg4.IsWhole) (x2 : Vec Ideal S1024x5632 .i8)
    (x3 : FVec Ideal S16x5632 .bf16) (d : Fin 2048) (n : Fin 5632) :
    View.canon (kernelRun0_A.sl.HS0_16 (F := Ideal) c arg3 harg3 arg4 harg4 x2 x3) (ix2 d n : S2048x5632.Idx)
      = wgt (fun d n => x2 (ix2 d n)) (fun g n => x3 (ix2 g n)) d n := by
  rw [wgts_eq]
  canon_tiles x h
  all_goals
    have h0' : d.val = _ := h0
    have h1' : n.val = (x 1).val := h1
    first
    | with_reducible refine hi_piece arg3 harg3 arg4 harg4 x2 x3 _ _ _ _ d n x ?_ h1' ?_
    | with_reducible refine lo_piece arg3 harg3 arg4 harg4 x2 x3 _ _ _ _ d n x ?_ h1' ?_ ?_
    all_goals omega

end Cert.KernelIdeal.Scratch

end
-- ==== Proof.Outs.lean ====
/- What one grid point stores: its 512 rotated rows, and their product with the weight.  Both cases of the body (the first
   point, which also fills the scratch, and the others, which find it filled) store the same pieces of the scratch. -/
module

public import proofs.«01_k».proof.Proof.Scratch

@[expose] public section

set_option maxRecDepth 16384

noncomputable section

namespace Cert.KernelIdeal.Outs

open Idealize.ShloMosaic Idealize.ShloMosaic.TcCoe Cert.Maths Cert.KernelIdeal Cert.KernelIdeal.Gen Cert.KernelIdeal.Scratch

section Pieces

variable {F : FTy → Type} [FloatOps F]

/-- A load of 256 columns of the rows. -/
abbrev RowLoad (F : FTy → Type) : Type :=
  (k : ℕ) → (∀ a, (![0, k] : Fin 2 → ℕ) a + S512x256.size a ≤ S512x2048.size a) → Vec F S512x256 .bf16

/-- A load of one dense factor. -/
abbrev FacLoad (F : FTy → Type) : Type :=
  (i k : ℕ) → (∀ a, (![i, k, 0, 0] : Fin 4 → ℕ) a + S1x1x256x256.size a ≤ S3x8x256x256.size a) → Vec F S1x1x256x256 .bf16

/-- A load of 512 columns of the weight. -/
abbrev WgtLoad (F : FTy → Type) : Type :=
  (n : ℕ) → (∀ a, (![0, n] : Fin 2 → ℕ) a + S2048x512.size a ≤ S2048x5632.size a) → Vec F S2048x512 .bf16

/-- A load of 512 of the output scales. -/
abbrev ScaleLoad (F : FTy → Type) : Type :=
  (n : ℕ) → (∀ a, (![0, n] : Fin 2 → ℕ) a + S1x512.size a ≤ S1x5632.size a) → Vec F S1x512 .f32

/-- The pieces of the rotated rows (last first): each 256 columns times their three dense factors. -/
def rotL (X : RowLoad F) (D : FacLoad F) : List (View.Piece (Elt F) S512x2048 .bf16) := [
  ⟨Rect.unit ![0, 1792] S512x256.size inb_S512x2048_S512x256_0_1792,
    k0_pay471 (X 1792 inb_S512x2048_S512x256_0_1792) (D 0 7 inb_S3x8x256x256_S1x1x256x256_0_7_0_0)
      (D 1 7 inb_S3x8x256x256_S1x1x256x256_1_7_0_0) (D 2 7 inb_S3x8x256x256_S1x1x256x256_2_7_0_0)⟩,
  ⟨Rect.unit ![0, 1536] S512x256.size inb_S512x2048_S512x256_0_1536,
    k0_pay471 (X 1536 inb_S512x2048_S512x256_0_1536) (D 0 6 inb_S3x8x256x256_S1x1x256x256_0_6_0_0)
      (D 1 6 inb_S3x8x256x256_S1x1x256x256_1_6_0_0) (D 2 6 inb_S3x8x256x256_S1x1x256x256_2_6_0_0)⟩,
  ⟨Rect.unit ![0, 1280] S512x256.size inb_S512x2048_S512x256_0_1280,
    k0_pay471 (X 1280 inb_S512x2048_S512x256_0_1280) (D 0 5 inb_S3x8x256x256_S1x1x256x256_0_5_0_0)
      (D 1 5 inb_S3x8x256x256_S1x1x256x256_1_5_0_0) (D 2 5 inb_S3x8x256x256_S1x1x256x256_2_5_0_0)⟩,
  ⟨Rect.unit ![0, 1024] S512x256.size inb_S512x2048_S512x256_0_1024,
    k0_pay471 (X 1024 inb_S512x2048_S512x256_0_1024) (D 0 4 inb_S3x8x256x256_S1x1x256x256_0_4_0_0)
      (D 1 4 inb_S3x8x256x256_S1x1x256x256_1_4_0_0) (D 2 4 inb_S3x8x256x256_S1x1x256x256_2_4_0_0)⟩,
  ⟨Rect.unit ![0, 768] S512x256.size inb_S512x2048_S512x256_0_768,
    k0_pay471 (X 768 inb_S512x2048_S512x256_0_768) (D 0 3 inb_S3x8x256x256_S1x1x256x256_0_3_0_0)
      (D 1 3 inb_S3x8x256x256_S1x1x256x256_1_3_0_0) (D 2 3 inb_S3x8x256x256_S1x1x256x256_2_3_0_0)⟩,
  ⟨Rect.unit ![0, 512] S512x256.size inb_S512x2048_S512x256_0_512,
    k0_pay471 (X 512 inb_S512x2048_S512x256_0_512) (D 0 2 inb_S3x8x256x256_S1x1x256x256_0_2_0_0)
      (D 1 2 inb_S3x8x256x256_S1x1x256x256_1_2_0_0) (D 2 2 inb_S3x8x256x256_S1x1x256x256_2_2_0_0)⟩,
  ⟨Rect.unit ![0, 256] S512x256.size inb_S512x2048_S512x256_0_256,
    k0_pay471 (X 256 inb_S512x2048_S512x256_0_256) (D 0 1 inb_S3x8x256x256_S1x1x256x256_0_1_0_0)
      (D 1 1 inb_S3x8x256x256_S1x1x256x256_1_1_0_0) (D 2 1 inb_S3x8x256x256_S1x1x256x256_2_1_0_0)⟩,
  ⟨Rect.unit ![0, 0] S512x256.size inb_S512x2048_S512x256_0_0,
    k0_pay471 (X 0 inb_S512x2048_S512x256_0_0) (D 0 0 inb_S3x8x256x256_S1x1x256x256_0_0_0_0)
      (D 1 0 inb_S3x8x256x256_S1x1x256x256_1_0_0_0) (D 2 0 inb_S3x8x256x256_S1x1x256x256_2_0_0_0)⟩]

/-- The pieces of the layer's output (last first): the rotated rows times 512 columns of the weight, times those columns'
    scales. -/
def linL (V : FVec F S512x2048 .bf16) (W : WgtLoad F) (O : ScaleLoad F) : List (View.Piece (Elt F) S512x5632 .bf16) := [
  ⟨Rect.unit ![0, 5120] S512x512.size inb_S512x5632_S512x512_0_5120,
    k0_pay486 V (W 5120 inb_S2048x5632_S2048x512_0_5120) (O 5120 inb_S1x5632_S1x512_0_5120)⟩,
  ⟨Rect.unit ![0, 4608] S512x512.size inb_S512x5632_S512x512_0_4608,
    k0_pay486 V (W 4608 inb_S2048x5632_S2048x512_0_4608) (O 4608 inb_S1x5632_S1x512_0_4608)⟩,
  ⟨Rect.unit ![0, 4096] S512x512.size inb_S512x5632_S512x512_0_4096,
    k0_pay486 V (W 4096 inb_S2048x5632_S2048x512_0_4096) (O 4096 inb_S1x5632_S1x512_0_4096)⟩,
  ⟨Rect.unit ![0, 3584] S512x512.size inb_S512x5632_S512x512_0_3584,
    k0_pay486 V (W 3584 inb_S2048x5632_S2048x512_0_3584) (O 3584 inb_S1x5632_S1x512_0_3584)⟩,
  ⟨Rect.unit ![0, 3072] S512x512.size inb_S512x5632_S512x512_0_3072,
    k0_pay486 V (W 3072 inb_S2048x5632_S2048x512_0_3072) (O 3072 inb_S1x5632_S1x512_0_3072)⟩,
  ⟨Rect.unit ![0, 2560] S512x512.size inb_S512x5632_S512x512_0_2560,
    k0_pay486 V (W 2560 inb_S2048x5632_S2048x512_0_2560) (O 2560 inb_S1x5632_S1x512_0_2560)⟩,
  ⟨Rect.unit ![0, 2048] S512x512.size inb_S512x5632_S512x512_0_2048,
    k0_pay486 V (W 2048 inb_S2048x5632_S2048x512_0_2048) (O 2048 inb_S1x5632_S1x512_0_2048)⟩,
  ⟨Rect.unit ![0, 1536] S512x512.size inb_S512x5632_S512x512_0_1536,
    k0_pay486 V (W 1536 inb_S2048x5632_S2048x512_0_1536) (O 1536 inb_S1x5632_S1x512_0_1536)⟩,
  ⟨Rect.unit ![0, 1024] S512x512.size inb_S512x5632_S512x512_0_1024,
    k0_pay486 V (W 1024 inb_S2048x5632_S2048x512_0_1024) (O 1024 inb_S1x5632_S1x512_0_1024)⟩,
  ⟨Rect.unit ![0, 512] S512x512.size inb_S512x5632_S512x512_0_512,
    k0_pay486 V (W 512 inb_S2048x5632_S2048x512_0_512) (O 512 inb_S1x5632_S1x512_0_512)⟩,
  ⟨Rect.unit ![0, 0] S512x512.size inb_S512x5632_S512x512_0_0,
    k0_pay486 V (W 0 inb_S2048x5632_S2048x512_0_0) (O 0 inb_S1x5632_S1x512_0_0)⟩]

/-- Columns read off whole rows. -/
def rowsOf (x : Vec F S512x2048 .bf16) : RowLoad F := fun k h => View.ld (S := S512x2048) (e' := .bf16) (Val := Elt F) x (Rect.unit (s := S512x2048) ![0, k] S512x256.size h)

/-- A factor read off the whole scratch. -/
def facOf (f : Vec F S3x8x256x256 .bf16) : FacLoad F := fun i k h => View.ld (S := S3x8x256x256) (e' := .bf16) (Val := Elt F) f (Rect.unit (s := S3x8x256x256) ![i, k, 0, 0] S1x1x256x256.size h)

/-- Columns read off the whole weight. -/
def wgtOf (w : Vec F S2048x5632 .bf16) : WgtLoad F := fun n h => View.ld (S := S2048x5632) (e' := .bf16) (Val := Elt F) w (Rect.unit (s := S2048x5632) ![0, n] S2048x512.size h)

/-- Scales read off the whole row of them. -/
def scaleOf (o : Vec F S1x5632 .f32) : ScaleLoad F := fun n h => View.ld (S := S1x5632) (e' := .f32) (Val := Elt F) o (Rect.unit (s := S1x5632) ![0, n] S1x512.size h)

/-- The first point's pieces of the rotated rows. -/
theorem piecesA_6 (c : Dev nD) (i : grid0.Coords) (arg1 : Memref sig .tc .vmem S512x2048 .bf16) (harg1 : arg1.IsWhole)
    (arg2 : Memref sig .tc .vmem S3x2048x16 .bf16) (harg2 : arg2.IsWhole) (arg3 : Memref sig .tc .vmem S1024x5632 .i8) (harg3 : arg3.IsWhole)
    (arg4 : Memref sig .tc .vmem S16x5632 .bf16) (harg4 : arg4.IsWhole) (arg5 : Memref sig .tc .vmem S1x5632 .f32) (harg5 : arg5.IsWhole)
    (arg6 : Memref sig .tc .vmem S512x5632 .bf16) (harg6 : arg6.IsWhole) (arg7 : Memref sig .tc .vmem S512x2048 .bf16) (harg7 : arg7.IsWhole)
    (arg8 : Memref sig .tc .vmem S2048x5632 .bf16) (harg8 : arg8.IsWhole) (arg9 : Memref sig .tc .vmem S3x8x256x256 .bf16) (harg9 : arg9.IsWhole) (hc0 : cond0_0 i) (x0 : Vec F S512x2048 .bf16) (x1 : Vec F S3x2048x16 .bf16) (x2 : Vec F S1024x5632 .i8) (x3 : Vec F S16x5632 .bf16) (x4 : Vec F S1x5632 .f32) :
    (kernelRun0_A c i arg1 harg1 arg2 harg2 arg3 harg3 arg4 harg4 arg5 harg5 arg6 harg6 arg7 harg7 arg8 harg8 arg9 harg9 hc0 x0 x1 x2 x3 x4).2.1
      = rotL (fun k h => View.readAt (Elt F) arg1.view (Rect.unit (s := S512x2048) ![0, k] S512x256.size h).toLoadRect (harg1.unread x0))
          (fun i k h => arg9.view.readCov (kernelRun0_A.sl.HS1_24 c arg2 harg2 x1) (Rect.unit (s := S3x8x256x256) ![i, k, 0, 0] S1x1x256x256.size h).toLoadRect) :=
  rfl

/-- The other points' pieces of the rotated rows. -/
theorem piecesB_6 (c : Dev nD) (i : grid0.Coords) (arg1 : Memref sig .tc .vmem S512x2048 .bf16) (harg1 : arg1.IsWhole)
    (arg2 : Memref sig .tc .vmem S3x2048x16 .bf16) (harg2 : arg2.IsWhole) (arg3 : Memref sig .tc .vmem S1024x5632 .i8) (harg3 : arg3.IsWhole)
    (arg4 : Memref sig .tc .vmem S16x5632 .bf16) (harg4 : arg4.IsWhole) (arg5 : Memref sig .tc .vmem S1x5632 .f32) (harg5 : arg5.IsWhole)
    (arg6 : Memref sig .tc .vmem S512x5632 .bf16) (harg6 : arg6.IsWhole) (arg7 : Memref sig .tc .vmem S512x2048 .bf16) (harg7 : arg7.IsWhole)
    (arg8 : Memref sig .tc .vmem S2048x5632 .bf16) (harg8 : arg8.IsWhole) (arg9 : Memref sig .tc .vmem S3x8x256x256 .bf16) (harg9 : arg9.IsWhole) (hc0 : ¬cond0_0 i) (x0 : Vec F S512x2048 .bf16) (x1 : Vec F S3x2048x16 .bf16) (x2 : Vec F S1024x5632 .i8) (x3 : Vec F S16x5632 .bf16) (x4 : Vec F S1x5632 .f32) (xs0 : Vec F S2048x5632 .bf16) (xs1 : Vec F S3x8x256x256 .bf16) :
    (kernelRun0_B c i arg1 harg1 arg2 harg2 arg3 harg3 arg4 harg4 arg5 harg5 arg6 harg6 arg7 harg7 arg8 harg8 arg9 harg9 hc0 x0 x1 x2 x3 x4 xs0 xs1).2.1
      = rotL (fun k h => View.readAt (Elt F) arg1.view (Rect.unit (s := S512x2048) ![0, k] S512x256.size h).toLoadRect (harg1.unread x0))
          (fun i k h => View.readAt (Elt F) arg9.view (Rect.unit (s := S3x8x256x256) ![i, k, 0, 0] S1x1x256x256.size h).toLoadRect (harg9.unread xs1)) :=
  rfl

/-- The first point's pieces of the layer's output. -/
theorem piecesA_5 (c : Dev nD) (i : grid0.Coords) (arg1 : Memref sig .tc .vmem S512x2048 .bf16) (harg1 : arg1.IsWhole)
    (arg2 : Memref sig .tc .vmem S3x2048x16 .bf16) (harg2 : arg2.IsWhole) (arg3 : Memref sig .tc .vmem S1024x5632 .i8) (harg3 : arg3.IsWhole)
    (arg4 : Memref sig .tc .vmem S16x5632 .bf16) (harg4 : arg4.IsWhole) (arg5 : Memref sig .tc .vmem S1x5632 .f32) (harg5 : arg5.IsWhole)
    (arg6 : Memref sig .tc .vmem S512x5632 .bf16) (harg6 : arg6.IsWhole) (arg7 : Memref sig .tc .vmem S512x2048 .bf16) (harg7 : arg7.IsWhole)
    (arg8 : Memref sig .tc .vmem S2048x5632 .bf16) (harg8 : arg8.IsWhole) (arg9 : Memref sig .tc .vmem S3x8x256x256 .bf16) (harg9 : arg9.IsWhole) (hc0 : cond0_0 i) (x0 : Vec F S512x2048 .bf16) (x1 : Vec F S3x2048x16 .bf16) (x2 : Vec F S1024x5632 .i8) (x3 : Vec F S16x5632 .bf16) (x4 : Vec F S1x5632 .f32) :
    (kernelRun0_A c i arg1 harg1 arg2 harg2 arg3 harg3 arg4 harg4 arg5 harg5 arg6 harg6 arg7 harg7 arg8 harg8 arg9 harg9 hc0 x0 x1 x2 x3 x4).1
      = linL (k0_pay482 (arg7.view.readCov (kernelRun0_A c i arg1 harg1 arg2 harg2 arg3 harg3 arg4 harg4 arg5 harg5 arg6 harg6 arg7 harg7 arg8 harg8 arg9 harg9 hc0 x0 x1 x2 x3 x4).2.1
            (Rect.unit (s := S512x2048) ![0, 0] S512x2048.size inb_S512x2048_S512x2048_0_0).toLoadRect))
          (fun n h => arg8.view.readCov (kernelRun0_A.sl.HS0_16 c arg3 harg3 arg4 harg4 x2 x3) (Rect.unit (s := S2048x5632) ![0, n] S2048x512.size h).toLoadRect)
          (fun n h => View.readAt (Elt F) arg5.view (Rect.unit (s := S1x5632) ![0, n] S1x512.size h).toLoadRect (harg5.unread x4)) :=
  rfl

/-- The other points' pieces of the layer's output. -/
theorem piecesB_5 (c : Dev nD) (i : grid0.Coords) (arg1 : Memref sig .tc .vmem S512x2048 .bf16) (harg1 : arg1.IsWhole)
    (arg2 : Memref sig .tc .vmem S3x2048x16 .bf16) (harg2 : arg2.IsWhole) (arg3 : Memref sig .tc .vmem S1024x5632 .i8) (harg3 : arg3.IsWhole)
    (arg4 : Memref sig .tc .vmem S16x5632 .bf16) (harg4 : arg4.IsWhole) (arg5 : Memref sig .tc .vmem S1x5632 .f32) (harg5 : arg5.IsWhole)
    (arg6 : Memref sig .tc .vmem S512x5632 .bf16) (harg6 : arg6.IsWhole) (arg7 : Memref sig .tc .vmem S512x2048 .bf16) (harg7 : arg7.IsWhole)
    (arg8 : Memref sig .tc .vmem S2048x5632 .bf16) (harg8 : arg8.IsWhole) (arg9 : Memref sig .tc .vmem S3x8x256x256 .bf16) (harg9 : arg9.IsWhole) (hc0 : ¬cond0_0 i) (x0 : Vec F S512x2048 .bf16) (x1 : Vec F S3x2048x16 .bf16) (x2 : Vec F S1024x5632 .i8) (x3 : Vec F S16x5632 .bf16) (x4 : Vec F S1x5632 .f32) (xs0 : Vec F S2048x5632 .bf16) (xs1 : Vec F S3x8x256x256 .bf16) :
    (kernelRun0_B c i arg1 harg1 arg2 harg2 arg3 harg3 arg4 harg4 arg5 harg5 arg6 harg6 arg7 harg7 arg8 harg8 arg9 harg9 hc0 x0 x1 x2 x3 x4 xs0 xs1).1
      = linL (k0_pay482 (arg7.view.readCov (kernelRun0_B c i arg1 harg1 arg2 harg2 arg3 harg3 arg4 harg4 arg5 harg5 arg6 harg6 arg7 harg7 arg8 harg8 arg9 harg9 hc0 x0 x1 x2 x3 x4 xs0 xs1).2.1
            (Rect.unit (s := S512x2048) ![0, 0] S512x2048.size inb_S512x2048_S512x2048_0_0).toLoadRect))
          (fun n h => View.readAt (Elt F) arg8.view (Rect.unit (s := S2048x5632) ![0, n] S2048x512.size h).toLoadRect (harg8.unread xs0))
          (fun n h => View.readAt (Elt F) arg5.view (Rect.unit (s := S1x5632) ![0, n] S1x512.size h).toLoadRect (harg5.unread x4)) :=
  rfl

end Pieces

/-! ## What those pieces leave -/

theorem step_at (B : Fin 3 → Fin 2048 → Fin 16 → EReal) (i : Fin 3) (z : Fin 2048 → EReal) (k : Fin 8) (q : Fin 256) :
    step B i z ⟨k.val * 256 + q.val, by omega⟩ = ∑ r : Fin 256, z ⟨k.val * 256 + r.val, by omega⟩ * fac B i k r q := by
  unfold step
  have e1 : (k.val * 256 + q.val) / 256 = k.val := by omega
  have e2 : (k.val * 256 + q.val) % 256 = q.val := by omega
  refine Finset.sum_congr rfl fun r _ => ?_
  refine congrArg₂ (· * ·) (congrArg z (Fin.ext ?_)) ?_
  · dsimp only; rw [e1]
  · have h1 : (⟨(k.val * 256 + q.val) / 256, by omega⟩ : Fin 8) = k := Fin.ext e1
    have h2 : (⟨(k.val * 256 + q.val) % 256, by omega⟩ : Fin 256) = q := Fin.ext e2
    dsimp only
    rw [h1, h2]

theorem facOf_apply (B : FVec Ideal S3x2048x16 .bf16) (i' k' : ℕ) (h) (i : Fin 3) (k : Fin 8) (hi : i.val = i') (hk : k.val = k')
    (r q : Fin 256) : facOf (F := Ideal) (facs B) i' k' h (ix4 0 0 r q) = fac (cur B) i k r q := by
  subst hi hk
  unfold facOf
  have e : (Rect.unit (s := S3x8x256x256) ![i.val, k.val, 0, 0] S1x1x256x256.size h).idx (ix4 0 0 r q) = ix4 i k r q := by
    idx_ext
  show facs B _ = _
  rw [e]
  rfl

theorem rowsOf_apply (x : FVec Ideal S512x2048 .bf16) (k' : ℕ) (h) (p : Fin 512) (r : Fin 256) (d : Fin 2048) (hd : d.val = k' + r.val) :
    rowsOf (F := Ideal) x k' h (ix2 p r) = x (ix2 p d) := by
  unfold rowsOf
  refine congrArg x ?_
  idx_ext

/-- One piece of the rotated rows, read where it lands. -/
theorem rot_piece (x : FVec Ideal S512x2048 .bf16) (B : FVec Ideal S3x2048x16 .bf16) (k' c' : ℕ) (h h0 h1 h2) (p : Fin 512)
    (col : Fin 2048) (y : S512x256.Idx) (hp : p.val = (y 0).val) (hc : col.val = c' + (y 1).val) (hk : c' = 256 * k') :
    k0_pay471 (F := Ideal) (rowsOf x c' h) (facOf (facs B) 0 k' h0) (facOf (facs B) 1 k' h1) (facOf (facs B) 2 k' h2) y
      = rot (cur B) (fun k => x (ix2 p k)) col := by
  obtain ⟨a, b, rfl⟩ : ∃ (a : Fin 512) (b : Fin 256), y = ix2 a b := ⟨y 0, y 1, eq_ix2 y⟩
  obtain rfl : p = a := Fin.ext hp
  have hc' : col.val = c' + b.val := hc
  have hcl := col.isLt
  have hk8 : k' < 8 := by omega
  have e : col = ⟨k' * 256 + b.val, by omega⟩ := Fin.ext (by dsimp only; omega)
  rw [e]
  unfold rot
  rw [step_at (cur B) 2 _ ⟨k', hk8⟩ b]
  pointwise [k0_pay471]
  refine Finset.sum_congr rfl fun r _ => ?_
  rw [facOf_apply B 2 k' h2 2 ⟨k', hk8⟩ rfl rfl, step_at (cur B) 1 _ ⟨k', hk8⟩ r]
  refine congrArg₂ (· * ·) (Finset.sum_congr rfl fun s _ => ?_) rfl
  rw [facOf_apply B 1 k' h1 1 ⟨k', hk8⟩ rfl rfl, step_at (cur B) 0 _ ⟨k', hk8⟩ s]
  refine congrArg₂ (· * ·) (Finset.sum_congr rfl fun u _ => ?_) rfl
  rw [facOf_apply B 0 k' h0 0 ⟨k', hk8⟩ rfl rfl]
  refine congrArg₂ (· * ·) ?_ rfl
  exact rowsOf_apply x c' h p u ⟨k' * 256 + u.val, by omega⟩ (by dsimp only; omega)

/-- What the pieces of the rotated rows leave, at a place. -/
theorem rot_canon (x : FVec Ideal S512x2048 .bf16) (B : FVec Ideal S3x2048x16 .bf16) (p : Fin 512) (col : Fin 2048) :
    View.canon (rotL (F := Ideal) (rowsOf x) (facOf (facs B))) (ix2 p col : S512x2048.Idx) = rot (cur B) (fun k => x (ix2 p k)) col := by
  unfold rotL
  canon_tiles y h
  all_goals
    have h0' : p.val = (y 0).val := h0
    have h1' : col.val = _ := h1
    with_reducible refine rot_piece x B _ _ _ _ _ _ p col y h0' ?_ ?_
    all_goals omega

/-- The rotated rows of one block, as an array. -/
def rotV (B : FVec Ideal S3x2048x16 .bf16) (x : FVec Ideal S512x2048 .bf16) : FVec Ideal S512x2048 .bf16 :=
  fun j => rot (cur B) (fun k => x (ix2 (j 0) k)) (j 1)

theorem wgtOf_apply (P : Vec Ideal S1024x5632 .i8) (S : FVec Ideal S16x5632 .bf16) (c' : ℕ) (h) (k : Fin 2048) (b : Fin 512)
    (n : Fin 5632) (hn : n.val = c' + b.val) :
    wgtOf (F := Ideal) (wgts P S) c' h (ix2 k b) = wgt (fun d n => P (ix2 d n)) (fun g n => S (ix2 g n)) k n := by
  unfold wgtOf
  have e : (Rect.unit (s := S2048x5632) ![0, c'] S2048x512.size h).idx (ix2 k b) = ix2 k n := by
    idx_ext
  show wgts P S _ = _
  rw [e]
  rfl

theorem scaleOf_apply (o : FVec Ideal S1x5632 .f32) (c' : ℕ) (h) (b : Fin 512) (n : Fin 5632) (hn : n.val = c' + b.val) :
    scaleOf (F := Ideal) o c' h (ix2 0 b) = o (ix2 0 n) := by
  unfold scaleOf
  refine congrArg o ?_
  idx_ext

/-- One piece of the layer's output, read where it lands. -/
theorem lin_piece (V : FVec Ideal S512x2048 .bf16) (P : Vec Ideal S1024x5632 .i8) (S : FVec Ideal S16x5632 .bf16)
    (o : FVec Ideal S1x5632 .f32) (c' : ℕ) (h h') (p : Fin 512) (n : Fin 5632) (y : S512x512.Idx) (hp : p.val = (y 0).val)
    (hn : n.val = c' + (y 1).val) :
    k0_pay486 (F := Ideal) V (wgtOf (wgts P S) c' h) (scaleOf o c' h') y
      = lin (fun d n => P (ix2 d n)) (fun g n => S (ix2 g n)) (fun n => o (ix2 0 n)) (fun k => V (ix2 p k)) n := by
  obtain ⟨a, b, rfl⟩ : ∃ (a : Fin 512) (b : Fin 512), y = ix2 a b := ⟨y 0, y 1, eq_ix2 y⟩
  obtain rfl : p = a := Fin.ext hp
  have hn' : n.val = c' + b.val := hn
  pointwise [k0_pay486]
  unfold lin
  rw [scaleOf_apply o c' h' b n hn']
  refine congrArg₂ (· * ·) (Finset.sum_congr rfl fun k _ => ?_) rfl
  rw [wgtOf_apply P S c' h k b n hn']

/-- What the pieces of the layer's output leave, at a place. -/
theorem lin_canon (V : FVec Ideal S512x2048 .bf16) (P : Vec Ideal S1024x5632 .i8) (S : FVec Ideal S16x5632 .bf16)
    (o : FVec Ideal S1x5632 .f32) (p : Fin 512) (n : Fin 5632) :
    View.canon (linL (F := Ideal) V (wgtOf (wgts P S)) (scaleOf o)) (ix2 p n : S512x5632.Idx)
      = lin (fun d n => P (ix2 d n)) (fun g n => S (ix2 g n)) (fun n => o (ix2 0 n)) (fun k => V (ix2 p k)) n := by
  unfold linL
  canon_tiles y h
  all_goals
    have h0' : p.val = (y 0).val := h0
    have h1' : n.val = _ := h1
    with_reducible refine lin_piece V P S o _ _ _ p n y h0' ?_
    omega

/-- The layer's output of one block, as an array. -/
def linV (P : Vec Ideal S1024x5632 .i8) (S : FVec Ideal S16x5632 .bf16) (o : FVec Ideal S1x5632 .f32)
    (V : FVec Ideal S512x2048 .bf16) : FVec Ideal S512x5632 .bf16 :=
  fun j => lin (fun d n => P (ix2 d n)) (fun g n => S (ix2 g n)) (fun n => o (ix2 0 n)) (fun k => V (ix2 (j 0) k)) (j 1)

/-! ## What each case leaves -/

theorem facs_arr (c : Dev nD) (arg2 : Memref sig .tc .vmem S3x2048x16 .bf16) (harg2 : arg2.IsWhole)
    (x1 : FVec Ideal S3x2048x16 .bf16) : View.canon (kernelRun0_A.sl.HS1_24 (F := Ideal) c arg2 harg2 x1) = facs x1 :=
  funext fun j => by rw [eq_ix4 j]; exact facs_canon c arg2 harg2 x1 (j 0) (j 1) (j 2) (j 3)

theorem wgts_arr (c : Dev nD) (arg3 : Memref sig .tc .vmem S1024x5632 .i8) (harg3 : arg3.IsWhole)
    (arg4 : Memref sig .tc .vmem S16x5632 .bf16) (harg4 : arg4.IsWhole) (x2 : Vec Ideal S1024x5632 .i8)
    (x3 : FVec Ideal S16x5632 .bf16) :
    View.canon (kernelRun0_A.sl.HS0_16 (F := Ideal) c arg3 harg3 arg4 harg4 x2 x3) = wgts x2 x3 :=
  funext fun j => by rw [eq_ix2 j]; exact wgts_canon c arg3 harg3 arg4 harg4 x2 x3 (j 0) (j 1)

theorem rot_arr (x : FVec Ideal S512x2048 .bf16) (B : FVec Ideal S3x2048x16 .bf16) :
    View.canon (rotL (F := Ideal) (rowsOf x) (facOf (facs B))) = rotV B x :=
  funext fun j => by rw [eq_ix2 j]; exact rot_canon x B (j 0) (j 1)

theorem lin_arr (V : FVec Ideal S512x2048 .bf16) (P : Vec Ideal S1024x5632 .i8) (S : FVec Ideal S16x5632 .bf16)
    (o : FVec Ideal S1x5632 .f32) : View.canon (linL (F := Ideal) V (wgtOf (wgts P S)) (scaleOf o)) = linV P S o V :=
  funext fun j => by rw [eq_ix2 j]; exact lin_canon V P S o (j 0) (j 1)

/-- The rotated rows read back whole are themselves. -/
theorem readback (v : View sig .tc .vmem S512x2048 .bf16) (L : List (View.Piece (Elt Ideal) S512x2048 .bf16)) :
    k0_pay482 (F := Ideal) (v.readCov L (Rect.unit (s := S512x2048) ![0, 0] S512x2048.size inb_S512x2048_S512x2048_0_0).toLoadRect)
      = View.canon L := by
  rw [View.readCov_eq_canon']
  refine funext fun j => ?_
  obtain ⟨a, b, rfl⟩ : ∃ (a : Fin 512) (b : Fin 2048), j = ix2 a b := ⟨j 0, j 1, eq_ix2 j⟩
  pointwise [k0_pay482]

section Cases

variable (c : Dev nD) (i : grid0.Coords) (arg1 : Memref sig .tc .vmem S512x2048 .bf16) (harg1 : arg1.IsWhole)
    (arg2 : Memref sig .tc .vmem S3x2048x16 .bf16) (harg2 : arg2.IsWhole) (arg3 : Memref sig .tc .vmem S1024x5632 .i8) (harg3 : arg3.IsWhole)
    (arg4 : Memref sig .tc .vmem S16x5632 .bf16) (harg4 : arg4.IsWhole) (arg5 : Memref sig .tc .vmem S1x5632 .f32) (harg5 : arg5.IsWhole)
    (arg6 : Memref sig .tc .vmem S512x5632 .bf16) (harg6 : arg6.IsWhole) (arg7 : Memref sig .tc .vmem S512x2048 .bf16) (harg7 : arg7.IsWhole)
    (arg8 : Memref sig .tc .vmem S2048x5632 .bf16) (harg8 : arg8.IsWhole) (arg9 : Memref sig .tc .vmem S3x8x256x256 .bf16) (harg9 : arg9.IsWhole)
variable (x0 : Vec Ideal S512x2048 .bf16) (x1 : Vec Ideal S3x2048x16 .bf16) (x2 : Vec Ideal S1024x5632 .i8) (x3 : Vec Ideal S16x5632 .bf16) (x4 : Vec Ideal S1x5632 .f32)

theorem rowsOf_eq : (fun k h => View.readAt (Elt Ideal) arg1.view (Rect.unit (s := S512x2048) ![0, k] S512x256.size h).toLoadRect (harg1.unread x0) : RowLoad Ideal)
    = rowsOf x0 := by
  funext k h
  rw [View.readAt_eq_ld, harg1.read_unread]
  rfl

theorem scaleOf_eq : (fun n h => View.readAt (Elt Ideal) arg5.view (Rect.unit (s := S1x5632) ![0, n] S1x512.size h).toLoadRect (harg5.unread x4) : ScaleLoad Ideal)
    = scaleOf x4 := by
  funext k h
  rw [View.readAt_eq_ld, harg5.read_unread]
  rfl

/-- The first point fills the factors' scratch, -/
theorem soutA_1 (hc0 : cond0_0 i) : sout0_A_1 (F := Ideal) c i arg1 harg1 arg2 harg2 arg3 harg3 arg4 harg4 arg5 harg5 arg6 harg6 arg7 harg7 arg8 harg8 arg9 harg9 hc0 x0 x1 x2 x3 x4 = facs x1 := by
  unfold sout0_A_1
  rw [View.read_writes_junk_eq_canon]
  exact facs_arr c arg2 harg2 x1

/-- and the weight's; -/
theorem soutA_0 (hc0 : cond0_0 i) : sout0_A_0 (F := Ideal) c i arg1 harg1 arg2 harg2 arg3 harg3 arg4 harg4 arg5 harg5 arg6 harg6 arg7 harg7 arg8 harg8 arg9 harg9 hc0 x0 x1 x2 x3 x4 = wgts x2 x3 := by
  unfold sout0_A_0
  rw [View.read_writes_junk_eq_canon]
  exact wgts_arr c arg3 harg3 arg4 harg4 x2 x3

theorem canonA_6 (hc0 : cond0_0 i) : View.canon (kernelRun0_A (F := Ideal) c i arg1 harg1 arg2 harg2 arg3 harg3 arg4 harg4 arg5 harg5 arg6 harg6 arg7 harg7 arg8 harg8 arg9 harg9 hc0 x0 x1 x2 x3 x4).2.1 = rotV x1 x0 := by
  rw [piecesA_6, rowsOf_eq]
  have e : (fun i k h => arg9.view.readCov (kernelRun0_A.sl.HS1_24 (F := Ideal) c arg2 harg2 x1) (Rect.unit (s := S3x8x256x256) ![i, k, 0, 0] S1x1x256x256.size h).toLoadRect : FacLoad Ideal)
      = facOf (facs x1) := by
    funext i k h
    rw [View.readCov_eq_canon', facs_arr]
    rfl
  rw [e]
  exact rot_arr x0 x1

/-- leaves its rotated rows -/
theorem outA_6 (hc0 : cond0_0 i) : out0_A_6 (F := Ideal) c i arg1 harg1 arg2 harg2 arg3 harg3 arg4 harg4 arg5 harg5 arg6 harg6 arg7 harg7 arg8 harg8 arg9 harg9 hc0 x0 x1 x2 x3 x4 = rotV x1 x0 := by
  unfold out0_A_6
  rw [View.read_writes_junk_eq_canon]
  exact canonA_6 c i arg1 harg1 arg2 harg2 arg3 harg3 arg4 harg4 arg5 harg5 arg6 harg6 arg7 harg7 arg8 harg8 arg9 harg9 x0 x1 x2 x3 x4 hc0

/-- and their product with the weight. -/
theorem outA_5 (hc0 : cond0_0 i) : out0_A_5 (F := Ideal) c i arg1 harg1 arg2 harg2 arg3 harg3 arg4 harg4 arg5 harg5 arg6 harg6 arg7 harg7 arg8 harg8 arg9 harg9 hc0 x0 x1 x2 x3 x4 = linV x2 x3 x4 (rotV x1 x0) := by
  unfold out0_A_5
  rw [View.read_writes_junk_eq_canon, piecesA_5, scaleOf_eq, readback, canonA_6]
  have e : (fun n h => arg8.view.readCov (kernelRun0_A.sl.HS0_16 (F := Ideal) c arg3 harg3 arg4 harg4 x2 x3) (Rect.unit (s := S2048x5632) ![0, n] S2048x512.size h).toLoadRect : WgtLoad Ideal)
      = wgtOf (wgts x2 x3) := by
    funext n h
    rw [View.readCov_eq_canon', wgts_arr]
    rfl
  rw [e]
  exact lin_arr _ x2 x3 x4

theorem canonB_6 (hc0 : ¬cond0_0 i) (xs0 : Vec Ideal S2048x5632 .bf16) (B : FVec Ideal S3x2048x16 .bf16) :
    View.canon (kernelRun0_B (F := Ideal) c i arg1 harg1 arg2 harg2 arg3 harg3 arg4 harg4 arg5 harg5 arg6 harg6 arg7 harg7 arg8 harg8 arg9 harg9 hc0 x0 x1 x2 x3 x4 xs0 (facs B)).2.1 = rotV B x0 := by
  rw [piecesB_6, rowsOf_eq]
  have e : (fun i k h => View.readAt (Elt Ideal) arg9.view (Rect.unit (s := S3x8x256x256) ![i, k, 0, 0] S1x1x256x256.size h).toLoadRect (harg9.unread (facs B)) : FacLoad Ideal)
      = facOf (facs B) := by
    funext i k h
    rw [View.readAt_eq_ld, harg9.read_unread]
    rfl
  rw [e]
  exact rot_arr x0 B

/-- A later point, over a scratch of dense factors, leaves its rotated rows -/
theorem outB_6 (hc0 : ¬cond0_0 i) (xs0 : Vec Ideal S2048x5632 .bf16) (B : FVec Ideal S3x2048x16 .bf16) :
    out0_B_6 (F := Ideal) c i arg1 harg1 arg2 harg2 arg3 harg3 arg4 harg4 arg5 harg5 arg6 harg6 arg7 harg7 arg8 harg8 arg9 harg9 hc0 x0 x1 x2 x3 x4 xs0 (facs B) = rotV B x0 := by
  unfold out0_B_6
  rw [View.read_writes_junk_eq_canon]
  exact canonB_6 c i arg1 harg1 arg2 harg2 arg3 harg3 arg4 harg4 arg5 harg5 arg6 harg6 arg7 harg7 arg8 harg8 arg9 harg9 x0 x1 x2 x3 x4 hc0 xs0 B

/-- and their product with the weight. -/
theorem outB_5 (hc0 : ¬cond0_0 i) (B : FVec Ideal S3x2048x16 .bf16) (P : Vec Ideal S1024x5632 .i8) (S : FVec Ideal S16x5632 .bf16) :
    out0_B_5 (F := Ideal) c i arg1 harg1 arg2 harg2 arg3 harg3 arg4 harg4 arg5 harg5 arg6 harg6 arg7 harg7 arg8 harg8 arg9 harg9 hc0 x0 x1 x2 x3 x4 (wgts P S) (facs B) = linV P S x4 (rotV B x0) := by
  unfold out0_B_5
  rw [View.read_writes_junk_eq_canon, piecesB_5, scaleOf_eq, readback, canonB_6]
  have e : (fun n h => View.readAt (Elt Ideal) arg8.view (Rect.unit (s := S2048x5632) ![0, n] S2048x512.size h).toLoadRect (harg8.unread (wgts P S)) : WgtLoad Ideal)
      = wgtOf (wgts P S) := by
    funext n h
    rw [View.readAt_eq_ld, harg8.read_unread]
    rfl
  rw [e]
  exact lin_arr _ P S x4

end Cases

end Cert.KernelIdeal.Outs

end
-- ==== Proof.Arr.lean ====
/- THE KERNEL'S RESULT ARRAYS: the scratch every point reads, the block every point leaves, the two arrays after the run. -/
module

public import proofs.«01_k».proof.Proof.Outs
public import proofs.«01_k».proof.Proof.Gen.KernelIdeal.Frame
public import Idealize.ShloMosaic.Lib.Pipeline.ValueKit

@[expose] public section

set_option maxRecDepth 16384

noncomputable section

namespace Cert.KernelIdeal.Arr

open Idealize.ShloMosaic Idealize.ShloMosaic.TcCoe
open Idealize.SL Idealize.SL.Sem
open Cert.KernelIdeal Cert.KernelIdeal.Gen Cert.KernelIdeal.Scratch Cert.KernelIdeal.Outs Cert.Maths

variable (m : (ℓ : Loc nD τ sig) → Buf (Elt Ideal) ℓ)

/-- The rows as the kernel finds them. -/
abbrev rows (c : Dev nD) : FVec Ideal S12288x2048 .bf16 := V m c main_v0
/-- The factors as the kernel finds them. -/
abbrev blks (c : Dev nD) : FVec Ideal S3x2048x16 .bf16 := V m c main_v1
/-- The codes as the kernel finds them. -/
abbrev codes (c : Dev nD) : Vec Ideal S1024x5632 .i8 := V m c main_arg2
/-- The group scales as the kernel finds them. -/
abbrev gscale (c : Dev nD) : FVec Ideal S16x5632 .bf16 := V m c main_arg3
/-- The output scales as the kernel finds them. -/
abbrev oscale (c : Dev nD) : FVec Ideal S1x5632 .f32 := V m c main_v2

/-- Where each window's block sits at a point: the rows' and the outputs' blocks walk down the rows, the rest stay. -/
theorem idx : ∀ t : Fin cfg0.N, win0_0.index t = ![t.val, 0] ∧ win0_1.index t = ![0, 0, 0] ∧ win0_2.index t = ![0, 0]
    ∧ win0_3.index t = ![0, 0] ∧ win0_4.index t = ![0, 0] ∧ win0_5.index t = ![t.val, 0] ∧ win0_6.index t = ![t.val, 0] :=
  (by decide +kernel : ∀ t : Fin grid0.N, _)

theorem blk_1 (c : Dev nD) (t : Fin cfg0.N) : (iblk m c 1 t : FVec Ideal S3x2048x16 .bf16) = blks m c := by
  blk_ext! [iblk, idx t]
theorem blk_2 (c : Dev nD) (t : Fin cfg0.N) : (iblk m c 2 t : Vec Ideal S1024x5632 .i8) = codes m c := by
  blk_ext! [iblk, idx t]
theorem blk_3 (c : Dev nD) (t : Fin cfg0.N) : (iblk m c 3 t : FVec Ideal S16x5632 .bf16) = gscale m c := by
  blk_ext! [iblk, idx t]
theorem blk_4 (c : Dev nD) (t : Fin cfg0.N) : (iblk m c 4 t : FVec Ideal S1x5632 .f32) = oscale m c := by
  blk_ext! [iblk, idx t]

/-- At every point the two scratch arrays hold the dense weight and the dense factors. -/
theorem scratch (c : Dev nD) : ∀ (n : ℕ) (hn : n < cfg0.N),
    (outsAt0 m c n hn).2.2.1 = wgts (codes m c) (gscale m c) ∧ (outsAt0 m c n hn).2.2.2 = facs (blks m c)
  | 0, hn => by
    have e := outsAt0_A m c ⟨0, hn⟩ (Nat.zero_mod _)
    dsimp only at e
    rw [e]
    dsimp only
    rw [soutA_0, soutA_1, blk_1, blk_2, blk_3]
    exact ⟨rfl, rfl⟩
  | n + 1, hn => by
    have hN : n + 1 < 24 := lt_of_lt_of_eq hn N_0
    have e := outsAt0_B m c ⟨n + 1, hn⟩ (by dsimp only; omega)
    dsimp only at e
    rw [e]
    dsimp only
    unfold sout0_B_0 sout0_B_1
    exact scratch c n _

/-- What a point leaves in the second output's buffer: its block of rows, rotated. -/
theorem left_6 (c : Dev nD) (t : Fin cfg0.N) : (outsAt0 m c t.val t.isLt).2.1 = rotV (blks m c) (iblk m c 0 t) := by
  by_cases h0 : t.val % 24 = 0
  · rw [outsAt0_A m c t h0]
    dsimp only
    rw [outA_6, blk_1]
  · rw [outsAt0_B m c t h0]
    dsimp only
    rw [(scratch m c _ _).2, outB_6]

/-- What a point leaves in the first output's buffer: those rows times the weight. -/
theorem left_5 (c : Dev nD) (t : Fin cfg0.N) : (outsAt0 m c t.val t.isLt).1
    = linV (codes m c) (gscale m c) (oscale m c) (rotV (blks m c) (iblk m c 0 t)) := by
  by_cases h0 : t.val % 24 = 0
  · rw [outsAt0_A m c t h0]
    dsimp only
    rw [outA_5, blk_1, blk_2, blk_3, blk_4]
  · rw [outsAt0_B m c t h0]
    dsimp only
    rw [(scratch m c _ _).1, (scratch m c _ _).2, outB_5, blk_4]

/-- The rotated rows, all of them. -/
def XR (B : FVec Ideal S3x2048x16 .bf16) (X : FVec Ideal S12288x2048 .bf16) : FVec Ideal S12288x2048 .bf16 :=
  fun j => rot (cur B) (fun k => X (ix2 (j 0) k)) (j 1)
/-- The layer's output, all of it. -/
def Y (B : FVec Ideal S3x2048x16 .bf16) (P : Vec Ideal S1024x5632 .i8) (S : FVec Ideal S16x5632 .bf16) (o : FVec Ideal S1x5632 .f32)
    (X : FVec Ideal S12288x2048 .bf16) : FVec Ideal S12288x5632 .bf16 :=
  fun j => lin (fun d n => P (ix2 d n)) (fun g n => S (ix2 g n)) (fun n => o (ix2 0 n)) (rot (cur B) (fun k => X (ix2 (j 0) k))) (j 1)

theorem row (c : Dev nD) (t : Fin cfg0.N) (p : Fin 512) (k : Fin 2048) (r : Fin 12288) (hr : r.val = t.val * 512 + p.val) :
    (iblk m c 0 t : FVec Ideal S512x2048 .bf16) (ix2 p k) = rows m c (ix2 r k) := by
  blk_ext [iblk, idx t]

/-- A block of the layer's output is the output's rows there. -/
theorem lin_rows (B : FVec Ideal S3x2048x16 .bf16) (P : Vec Ideal S1024x5632 .i8) (S : FVec Ideal S16x5632 .bf16)
    (o : FVec Ideal S1x5632 .f32) (x : FVec Ideal S512x2048 .bf16) (X : FVec Ideal S12288x2048 .bf16) (p : Fin 512) (r : Fin 12288)
    (q : Fin 5632) (h : ∀ k : Fin 2048, x (ix2 p k) = X (ix2 r k)) :
    linV P S o (rotV B x) (ix2 p q) = Y B P S o X (ix2 r q) := by
  have e : (fun k : Fin 2048 => rotV B x (ix2 p k)) = rot (cur B) (fun k => X (ix2 r k)) :=
    funext fun k => congrArg (fun z => rot (cur B) z k) (funext h)
  unfold linV Y
  exact congrArg (fun z => lin (fun d n => P (ix2 d n)) (fun g n => S (ix2 g n)) (fun n => o (ix2 0 n)) z q) e

/-- The second result array after the run. -/
theorem final_6 (c : Dev nD) : (dats m 0 c).arrAt 6 (cfgs 0).N = XR (blks m c) (rows m c) := by
  refine (dats m 0 c).arrAt_eq_of_covers 6 _ (by decide +kernel) fun t _ y => ?_
  blk_simp
  rw [after0_6, left_6]
  obtain ⟨p, q, rfl⟩ : ∃ (p : Fin 512) (q : Fin 2048), y = ix2 p q := ⟨y 0, y 1, eq_ix2 y⟩
  have ht : t.val < 24 := lt_of_lt_of_eq t.isLt N_0
  have e : ((cfg0.win 6).blk t).view.emb (ix2 p q) = (ix2 (⟨t.val * 512 + p.val, by omega⟩ : Fin 12288) q : S12288x2048.Idx) := by
    blk_ext [idx t]
  rw [e]
  refine congrArg (fun z => rot (cur (blks m c)) z q) (funext fun k => ?_)
  exact row m c t p k _ rfl

/-- The first result array after the run. -/
theorem final_5 (c : Dev nD) : (dats m 0 c).arrAt 5 (cfgs 0).N
    = Y (blks m c) (codes m c) (gscale m c) (oscale m c) (rows m c) := by
  refine (dats m 0 c).arrAt_eq_of_covers 5 _ (by decide +kernel) fun t _ y => ?_
  blk_simp
  rw [after0_5, left_5]
  obtain ⟨p, q, rfl⟩ : ∃ (p : Fin 512) (q : Fin 5632), y = ix2 p q := ⟨y 0, y 1, eq_ix2 y⟩
  have ht : t.val < 24 := lt_of_lt_of_eq t.isLt N_0
  have e : ((cfg0.win 5).blk t).view.emb (ix2 p q) = (ix2 (⟨t.val * 512 + p.val, by omega⟩ : Fin 12288) q : S12288x5632.Idx) := by
    blk_ext [idx t]
  rw [e]
  exact lin_rows _ _ _ _ _ _ p _ q fun k => row m c t p k _ rfl

end Cert.KernelIdeal.Arr

end
-- ==== Proof.KRun.lean ====
/- THE KERNEL'S RUN: from every memory it finishes with its two results the arrays of Arr.lean, reshaped, over its arguments. -/
module

public import proofs.«01_k».proof.Proof.Arr
public import Idealize.ShloMosaic.Lib.Claim
public import Idealize.ShloMosaic.Lib.Pipeline.FrameTail

@[expose] public section

set_option maxRecDepth 16384

noncomputable section

namespace Cert.KernelIdeal.KRun

open Idealize.ShloMosaic Idealize.ShloMosaic.TcCoe
open Idealize.SL Idealize.SL.Sem
open Cert.KernelIdeal Cert.KernelIdeal.Gen Cert.KernelIdeal.Scratch Cert.KernelIdeal.Outs Cert.KernelIdeal.Arr Cert.Maths

variable (m : (ℓ : Loc nD τ sig) → Buf (Elt Ideal) ℓ)

/-- The second result, over the arguments: the rows and the factors flattened, rotated, the rows unflattened. -/
def kerXR (B : FVec Ideal S3x128x16x16 .bf16) (X : FVec Ideal S12x1024x2048 .bf16) : FVec Ideal S12x1024x2048 .bf16 :=
  shapeCast _ (XR (shapeCast _ B shapeCasts_S3x128x16x16_S3x2048x16) (shapeCast _ X shapeCasts_S12x1024x2048_S12288x2048)) shapeCasts_S12288x2048_S12x1024x2048

/-- The first result, over the arguments. -/
def kerY (B : FVec Ideal S3x128x16x16 .bf16) (P : Vec Ideal S1024x5632 .i8) (S : FVec Ideal S16x5632 .bf16) (o : FVec Ideal S5632 .f32)
    (X : FVec Ideal S12x1024x2048 .bf16) : FVec Ideal S12x1024x5632 .bf16 :=
  shapeCast _ (Y (shapeCast _ B shapeCasts_S3x128x16x16_S3x2048x16) P S (shapeCast _ o shapeCasts_S5632_S1x5632) (shapeCast _ X shapeCasts_S12x1024x2048_S12288x2048)) shapeCasts_S12288x5632_S12x1024x5632

theorem rows_eq (c : Dev nD) : rows m c = shapeCast _ (m ((c : Thread nD τ).loc main_arg0) : FVec Ideal S12x1024x2048 .bf16) shapeCasts_S12x1024x2048_S12288x2048 := by
  unfold rows
  entry_read
  try rfl
theorem blks_eq (c : Dev nD) : blks m c = shapeCast _ (m ((c : Thread nD τ).loc main_arg1) : FVec Ideal S3x128x16x16 .bf16) shapeCasts_S3x128x16x16_S3x2048x16 := by
  unfold blks
  entry_read
  try rfl
theorem oscale_eq (c : Dev nD) : oscale m c = shapeCast _ (m ((c : Thread nD τ).loc main_arg4) : FVec Ideal S5632 .f32) shapeCasts_S5632_S1x5632 := by
  unfold oscale
  entry_read
  try rfl
theorem codes_eq (c : Dev nD) : codes m c = m ((c : Thread nD τ).loc main_arg2) := by
  unfold codes
  entry_read
  try rfl
theorem gscale_eq (c : Dev nD) : gscale m c = m ((c : Thread nD τ).loc main_arg3) := by
  unfold gscale
  entry_read
  try rfl

/-- The first result after the reshapes that follow the kernel's call. -/
theorem tail_v4 (c : Dev nD) : Pipeline.afterTail₀ cfgs (dats m) 0 (V0 m) [hostOps1] c main_v4
    = kerY (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg0)) := by
  unfold Pipeline.afterTail₀
  rw [show [hostOps1 (F := Ideal)].flatten = hostOps1 from rfl]
  after_region_results
  have e := Pipeline.withArrays_arr spec0 launch0.win.arr_inj c (V0 m c) (fun w => (dats m 0 c).arrAt w (cfgs 0).N) 5
  rw [final_5, rows_eq, blks_eq, codes_eq, gscale_eq, oscale_eq] at e
  exact congrArg (fun z : FVec Ideal S12288x5632 .bf16 => shapeCast S12x1024x5632 z shapeCasts_S12288x5632_S12x1024x5632) e

/-- The second result after the reshapes that follow the kernel's call. -/
theorem tail_v5 (c : Dev nD) : Pipeline.afterTail₀ cfgs (dats m) 0 (V0 m) [hostOps1] c main_v5
    = kerXR (m ((c.tc : Thread nD τ).loc main_arg1)) (m ((c.tc : Thread nD τ).loc main_arg0)) := by
  unfold Pipeline.afterTail₀
  rw [show [hostOps1 (F := Ideal)].flatten = hostOps1 from rfl]
  after_region_results
  have e := Pipeline.withArrays_arr spec0 launch0.win.arr_inj c (V0 m c) (fun w => (dats m 0 c).arrAt w (cfgs 0).N) 6
  rw [final_6, rows_eq, blks_eq] at e
  exact congrArg (fun z : FVec Ideal S12288x2048 .bf16 => shapeCast S12x1024x2048 z shapeCasts_S12288x2048_S12x1024x2048) e

/-- The kernel's run. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v4) = kerY (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg0))
      ∧ r.2.mem ((c.tc : Thread nD τ).loc main_v5) = kerXR (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (θ_run_and (Cert.KernelIdeal.Gen.run_main m ρ) (Cert.KernelIdeal.Gen.unchanged m ρ))
  refine ⟨?_, ?_, h.2 c⟩
  · exact ((h.1 c).2 main_v4 (Pipeline.mem_restRefs_of main_v4 (by decide) (by decide))).trans (tail_v4 m c)
  · exact ((h.1 c).2 main_v5 (Pipeline.mem_restRefs_of main_v5 (by decide) (by decide))).trans (tail_v5 m c)

end Cert.KernelIdeal.KRun

end
-- ==== Proof.Ref.lean ====
/- WHAT THE REFERENCE COMPUTES: its three butterfly steps and its layer, read at a place. -/
module

public import proofs.«01_k».proof.Proof.Maths
public import proofs.«01_k».proof.Proof.Gen.ReferenceIdeal
public import proofs.«01_k».proof.Proof.Gen.ReferenceIdeal.Run
public import Idealize.ShloMosaic.Lib.WordCmp
public import Idealize.ShloMosaic.Lib.Pipeline.ValueKit

@[expose] public section

set_option maxRecDepth 16384

noncomputable section

namespace Cert.ReferenceIdeal.Steps

open Idealize.ShloMosaic Idealize.ShloMosaic.TcCoe
open Idealize.SL Idealize.SL.Sem
open Cert.ReferenceIdeal Cert.ReferenceIdeal.Gen Cert.Maths

/-- The reference's factors, its blocks' rows numbered through. -/
def rowsB (B : FVec Ideal S3x128x16x16 .bf16) : Fin 3 → Fin 2048 → Fin 16 → EReal :=
  fun i r b => B (ix4 i (⟨r.val / 16, by omega⟩ : Fin 128) (⟨r.val % 16, by omega⟩ : Fin 16) b)

/-- The reference's first step: 128 groups of one block. -/
def ref0 (B : FVec Ideal S3x128x16x16 .bf16) (z : FVec Ideal S12x1024x2048 .bf16) : FVec Ideal S12x1024x2048 .bf16 :=
  truncf .bf16 (shapeCast _ (transpose S12x1024x128x16x1 [3, 4, 0, 2, 1] (Host.dotGeneral dot_S128x1x16x16_S12x1024x128x16x1_S128x1x16x12x1024_2_3_3_01_01_24 none (shapeCast _ (shapeCast _ (extractStridedSlice S1x128x16x16 ![0, 0, 0, 0] B slices_S3x128x16x16_S1x128x16x16_0_0_0_0) shapeCasts_S1x128x16x16_S128x16x16) shapeCasts_S128x16x16_S128x1x16x16) (shapeCast _ z shapeCasts_S12x1024x2048_S12x1024x128x16x1)) transposes_S128x1x16x12x1024_S12x1024x128x16x1_3_4_0_2_1) shapeCasts_S12x1024x128x16x1_S12x1024x2048) bitsLt_bf16_f32

/-- The reference's second step: 64 groups of two blocks. -/
def ref1 (B : FVec Ideal S3x128x16x16 .bf16) (z : FVec Ideal S12x1024x2048 .bf16) : FVec Ideal S12x1024x2048 .bf16 :=
  truncf .bf16 (shapeCast _ (transpose S12x1024x64x16x2 [3, 4, 0, 2, 1] (Host.dotGeneral dot_S64x2x16x16_S12x1024x64x16x2_S64x2x16x12x1024_2_3_3_01_01_24 none (shapeCast _ (shapeCast _ (extractStridedSlice S1x128x16x16 ![1, 0, 0, 0] B slices_S3x128x16x16_S1x128x16x16_1_0_0_0) shapeCasts_S1x128x16x16_S128x16x16) shapeCasts_S128x16x16_S64x2x16x16) (shapeCast _ z shapeCasts_S12x1024x2048_S12x1024x64x16x2)) transposes_S64x2x16x12x1024_S12x1024x64x16x2_3_4_0_2_1) shapeCasts_S12x1024x64x16x2_S12x1024x2048) bitsLt_bf16_f32

/-- The reference's third step: 32 groups of four blocks. -/
def ref2 (B : FVec Ideal S3x128x16x16 .bf16) (z : FVec Ideal S12x1024x2048 .bf16) : FVec Ideal S12x1024x2048 .bf16 :=
  truncf .bf16 (shapeCast _ (transpose S12x1024x32x16x4 [3, 4, 0, 2, 1] (Host.dotGeneral dot_S32x4x16x16_S12x1024x32x16x4_S32x4x16x12x1024_2_3_3_01_01_24 none (shapeCast _ (shapeCast _ (extractStridedSlice S1x128x16x16 ![2, 0, 0, 0] B slices_S3x128x16x16_S1x128x16x16_2_0_0_0) shapeCasts_S1x128x16x16_S128x16x16) shapeCasts_S128x16x16_S32x4x16x16) (shapeCast _ z shapeCasts_S12x1024x2048_S12x1024x32x16x4)) transposes_S32x4x16x12x1024_S12x1024x32x16x4_3_4_0_2_1) shapeCasts_S12x1024x32x16x4_S12x1024x2048) bitsLt_bf16_f32

theorem ref0_at (B : FVec Ideal S3x128x16x16 .bf16) (z : FVec Ideal S12x1024x2048 .bf16) (b : Fin 12) (s : Fin 1024) (col : Fin 2048) :
    ref0 B z (ix3 b s col) = bfly (rowsB B) 0 (fun k => z (ix3 b s k)) col := by
  have hw : wd 0 = 16 := rfl
  have hs : st 0 = 1 := rfl
  pointwise [ref0]
  unfold bfly rowsB
  refine Finset.sum_congr rfl fun j _ => ?_
  rw [mul_comm]
  simp only [hw, hs]
  refine congrArg₂ (· * ·) (congrArg z ?_) (congrArg B ?_)
  · idx_ext
  · idx_ext

theorem ref1_at (B : FVec Ideal S3x128x16x16 .bf16) (z : FVec Ideal S12x1024x2048 .bf16) (b : Fin 12) (s : Fin 1024) (col : Fin 2048) :
    ref1 B z (ix3 b s col) = bfly (rowsB B) 1 (fun k => z (ix3 b s k)) col := by
  have hw : wd 1 = 32 := rfl
  have hs : st 1 = 2 := rfl
  pointwise [ref1]
  unfold bfly rowsB
  refine Finset.sum_congr rfl fun j _ => ?_
  rw [mul_comm]
  simp only [hw, hs]
  refine congrArg₂ (· * ·) (congrArg z ?_) (congrArg B ?_)
  · idx_ext
  · idx_ext

theorem ref2_at (B : FVec Ideal S3x128x16x16 .bf16) (z : FVec Ideal S12x1024x2048 .bf16) (b : Fin 12) (s : Fin 1024) (col : Fin 2048) :
    ref2 B z (ix3 b s col) = bfly (rowsB B) 2 (fun k => z (ix3 b s k)) col := by
  have hw : wd 2 = 64 := rfl
  have hs : st 2 = 4 := rfl
  pointwise [ref2]
  unfold bfly rowsB
  refine Finset.sum_congr rfl fun j _ => ?_
  rw [mul_comm]
  simp only [hw, hs]
  refine congrArg₂ (· * ·) (congrArg z ?_) (congrArg B ?_)
  · idx_ext
  · idx_ext

/-- The reference's weight rows of the low half: the code's low four bits, signed, times its group's scale. -/
def refLo (P : Vec Ideal S1024x5632 .i8) (S : FVec Ideal S16x5632 .bf16) : FVec Ideal S1024x5632 .bf16 :=
  mulf (sitofp .bf16 (select (cmpi .sge (extsi 32 (trunci 8 (andi (extui 32 P natLt_8_32) (broadcastInDim S1024x5632 ![] bcast_S_S1024x5632 (constantI S_ 32 15#32))) natLt_8_32) natLt_8_32) (broadcastInDim S1024x5632 ![] bcast_S_S1024x5632 (constantI S_ 32 8#32))) (subi (extsi 32 (trunci 8 (andi (extui 32 P natLt_8_32) (broadcastInDim S1024x5632 ![] bcast_S_S1024x5632 (constantI S_ 32 15#32))) natLt_8_32) natLt_8_32) (broadcastInDim S1024x5632 ![] bcast_S_S1024x5632 (constantI S_ 32 16#32))) (extsi 32 (trunci 8 (andi (extui 32 P natLt_8_32) (broadcastInDim S1024x5632 ![] bcast_S_S1024x5632 (constantI S_ 32 15#32))) natLt_8_32) natLt_8_32))) (shapeCast _ (broadcastInDim S8x128x5632 ![0, 2] bcast_S8x5632_S8x128x5632_0_2 (extractStridedSlice S8x5632 ![0, 0] S slices_S16x5632_S8x5632_0_0)) shapeCasts_S8x128x5632_S1024x5632)

/-- The reference's weight rows of the high half: the code's high four bits, signed, times its group's scale. -/
def refHi (P : Vec Ideal S1024x5632 .i8) (S : FVec Ideal S16x5632 .bf16) : FVec Ideal S1024x5632 .bf16 :=
  mulf (sitofp .bf16 (select (cmpi .sge (extsi 32 (trunci 8 (Host.shrsi (extui 32 P natLt_8_32) (broadcastInDim S1024x5632 ![] bcast_S_S1024x5632 (constantI S_ 32 4#32))) natLt_8_32) natLt_8_32) (broadcastInDim S1024x5632 ![] bcast_S_S1024x5632 (constantI S_ 32 8#32))) (subi (extsi 32 (trunci 8 (Host.shrsi (extui 32 P natLt_8_32) (broadcastInDim S1024x5632 ![] bcast_S_S1024x5632 (constantI S_ 32 4#32))) natLt_8_32) natLt_8_32) (broadcastInDim S1024x5632 ![] bcast_S_S1024x5632 (constantI S_ 32 16#32))) (extsi 32 (trunci 8 (Host.shrsi (extui 32 P natLt_8_32) (broadcastInDim S1024x5632 ![] bcast_S_S1024x5632 (constantI S_ 32 4#32))) natLt_8_32) natLt_8_32))) (shapeCast _ (broadcastInDim S8x128x5632 ![0, 2] bcast_S8x5632_S8x128x5632_0_2 (extractStridedSlice S8x5632 ![8, 0] S slices_S16x5632_S8x5632_8_0)) shapeCasts_S8x128x5632_S1024x5632)

/-- A code, 0 to 15, is unchanged by the cast to eight bits and back. -/
theorem cast_lo : ∀ b : BitVec 8, ((IntOp.andi (BitVec.setWidth 32 b) 15#32).setWidth 8).signExtend 32 = IntOp.andi (BitVec.setWidth 32 b) 15#32 := by
  decide +kernel
theorem cast_hi : ∀ b : BitVec 8, ((IntOp.shrsi .host (BitVec.setWidth 32 b) 4#32).setWidth 8).signExtend 32 = IntOp.shrsi .vector (BitVec.setWidth 32 b) 4#32 := by
  decide +kernel

theorem refLo_at (P : Vec Ideal S1024x5632 .i8) (S : FVec Ideal S16x5632 .bf16) (d : Fin 1024) (n : Fin 5632) :
    refLo P S (ix2 d n) = lo (P (ix2 d n)) * S (ix2 (⟨d.val / 128, by omega⟩ : Fin 16) n) := by
  pointwise [refLo]
  rw [cast_lo]
  rfl

theorem refHi_at (P : Vec Ideal S1024x5632 .i8) (S : FVec Ideal S16x5632 .bf16) (d : Fin 1024) (n : Fin 5632) :
    refHi P S (ix2 d n) = hi (P (ix2 d n)) * S (ix2 (⟨(d.val + 1024) / 128, by omega⟩ : Fin 16) n) := by
  pointwise [refHi]
  rw [show (⟨8 + d.val / 128, by omega⟩ : Fin 16) = ⟨(d.val + 1024) / 128, by omega⟩ from Fin.ext (by dsimp only; omega)]
  unfold hi
  rw [← cast_hi]
  rfl

/-- The reference's layer over rotated rows. -/
def refY (P : Vec Ideal S1024x5632 .i8) (S : FVec Ideal S16x5632 .bf16) (o : FVec Ideal S5632 .f32) (z : FVec Ideal S12x1024x2048 .bf16) : FVec Ideal S12x1024x5632 .bf16 :=
  truncf .bf16 (mulf (addf (Host.dotGeneral dot_S12x1024x1024_S1024x5632_S12x1024x5632_2_0_01_1_n_n none (extractStridedSlice S12x1024x1024 ![0, 0, 0] z slices_S12x1024x2048_S12x1024x1024_0_0_0) (refLo P S)) (Host.dotGeneral dot_S12x1024x1024_S1024x5632_S12x1024x5632_2_0_01_1_n_n none (extractStridedSlice S12x1024x1024 ![0, 0, 1024] z slices_S12x1024x2048_S12x1024x1024_0_0_1024) (refHi P S))) (broadcastInDim S12x1024x5632 ![0, 1, 2] bcast_S1x1x5632_S12x1024x5632_0_1_2 (broadcastInDim S1x1x5632 ![2] bcast_S5632_S1x1x5632_2 o))) bitsLt_bf16_f32

theorem refY_at (P : Vec Ideal S1024x5632 .i8) (S : FVec Ideal S16x5632 .bf16) (o : FVec Ideal S5632 .f32) (z : FVec Ideal S12x1024x2048 .bf16)
    (b : Fin 12) (s : Fin 1024) (n : Fin 5632) :
    refY P S o z (ix3 b s n) = lin (fun d n => P (ix2 d n)) (fun g n => S (ix2 g n)) (fun n => o (ix1 n)) (fun k => z (ix3 b s k)) n := by
  pointwise [refY]
  unfold lin
  refine congrArg₂ (· * ·) ?_ rfl
  rw [Fin.sum_univ_two_halves 1024 1024 rfl]
  refine congrArg₂ (· + ·) (Finset.sum_congr rfl fun k _ => ?_) (Finset.sum_congr rfl fun k _ => ?_)
  · rw [refLo_at]
    unfold wgt
    rw [dif_pos (by exact k.isLt)]
  · rw [refHi_at]
    unfold wgt
    rw [dif_neg (by dsimp only; omega)]
    refine congrArg₂ (· * ·) rfl (congrArg₂ (· * ·) (congrArg hi ?_) ?_)
    · exact congrArg (fun d : Fin 1024 => P (ix2 d n)) (Fin.ext (by dsimp only; omega))
    · exact congrArg (fun g : Fin 16 => S (ix2 g n)) (Fin.ext (by dsimp only; omega))

/-- The reference's rotated rows: the three steps in turn. -/
def refXR (B : FVec Ideal S3x128x16x16 .bf16) (X : FVec Ideal S12x1024x2048 .bf16) : FVec Ideal S12x1024x2048 .bf16 :=
  ref2 B (ref1 B (ref0 B X))

theorem refXR_at (B : FVec Ideal S3x128x16x16 .bf16) (X : FVec Ideal S12x1024x2048 .bf16) (b : Fin 12) (s : Fin 1024) (col : Fin 2048) :
    refXR B X (ix3 b s col) = rot (rowsB B) (fun k => X (ix3 b s k)) col := by
  rw [rot_eq]
  unfold refXR
  rw [ref2_at]
  refine congrArg (fun z => bfly (rowsB B) 2 z col) (funext fun k => ?_)
  rw [ref1_at]
  exact congrArg (fun z => bfly (rowsB B) 1 z k) (funext fun l => ref0_at B X b s l)

variable (m : (ℓ : Loc nD τ sig) → Buf (Elt Ideal) ℓ)

/-- The reference's run: its two results are those operations composed, its arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v61) = refY (m ((c.tc : Thread nD τ).loc main_arg2)) (m ((c.tc : Thread nD τ).loc main_arg3)) (m ((c.tc : Thread nD τ).loc main_arg4)) (refXR (m ((c.tc : Thread nD τ).loc main_arg1)) (m ((c.tc : Thread nD τ).loc main_arg0)))
      ∧ r.2.mem ((c.tc : Thread nD τ).loc main_v23) = refXR (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2.1.trans rfl, (h c).2.2⟩) (Value.run (F := Ideal) m ρ)

end Cert.ReferenceIdeal.Steps

end
-- ==== Proof.Equation.lean ====
/- THE EQUATION: over the same arguments, the kernel's two results are the reference's. -/
module

public import proofs.«01_k».proof.Proof.KRun
public import proofs.«01_k».proof.Proof.Ref

@[expose] public section

set_option maxRecDepth 16384

noncomputable section

namespace Cert.Equation

open Idealize.ShloMosaic
open Cert.KernelIdeal Cert.KernelIdeal.Scratch Cert.KernelIdeal.Arr Cert.KernelIdeal.KRun Cert.Maths
open Cert.ReferenceIdeal.Steps (rowsB refXR refY refXR_at refY_at)

/-- The kernel's flattened factors are the reference's blocks, their rows numbered through. -/
theorem factors (B : FVec Ideal S3x128x16x16 .bf16) :
    cur (shapeCast S3x2048x16 B Cert.KernelIdeal.Gen.shapeCasts_S3x128x16x16_S3x2048x16) = rowsB B := by
  funext i r b
  unfold cur rowsB
  pointwise

/-- The kernel's second result at a place: its row of the argument, rotated. -/
theorem kerXR_at (B : FVec Ideal S3x128x16x16 .bf16) (X : FVec Ideal S12x1024x2048 .bf16) (b : Fin 12) (s : Fin 1024) (col : Fin 2048) :
    kerXR B X (ix3 b s col) = rot (rowsB B) (fun k => X (ix3 b s k)) col := by
  rw [← factors]
  pointwise [kerXR, XR]

/-- The kernel's first result at a place: its row of the argument, rotated, through the layer. -/
theorem kerY_at (B : FVec Ideal S3x128x16x16 .bf16) (P : Vec Ideal S1024x5632 .i8) (S : FVec Ideal S16x5632 .bf16) (o : FVec Ideal S5632 .f32)
    (X : FVec Ideal S12x1024x2048 .bf16) (b : Fin 12) (s : Fin 1024) (n : Fin 5632) :
    kerY B P S o X (ix3 b s n)
      = lin (fun d n => P (ix2 d n)) (fun g n => S (ix2 g n)) (fun n => o (ix1 n)) (rot (rowsB B) (fun k => X (ix3 b s k))) n := by
  rw [← factors]
  pointwise [kerY, Y]

/-- The second results are equal. -/
theorem second (B : FVec Ideal S3x128x16x16 .bf16) (X : FVec Ideal S12x1024x2048 .bf16) : kerXR B X = refXR B X :=
  funext fun j => by
    rw [eq_ix3 j]
    exact (kerXR_at B X (j 0) (j 1) (j 2)).trans (refXR_at B X (j 0) (j 1) (j 2)).symm

/-- The first results are equal. -/
theorem first (B : FVec Ideal S3x128x16x16 .bf16) (P : Vec Ideal S1024x5632 .i8) (S : FVec Ideal S16x5632 .bf16) (o : FVec Ideal S5632 .f32)
    (X : FVec Ideal S12x1024x2048 .bf16) : kerY B P S o X = refY P S o (refXR B X) :=
  funext fun j => by
    rw [eq_ix3 j]
    refine (kerY_at B P S o X (j 0) (j 1) (j 2)).trans (Eq.trans ?_ (refY_at P S o (refXR B X) (j 0) (j 1) (j 2)).symm)
    exact congrArg (fun z => lin (fun d n => P (ix2 d n)) (fun g n => S (ix2 g n)) (fun n => o (ix1 n)) z (j 2))
      (funext fun k => (refXR_at B X (j 0) (j 1) k).symm)

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference finishes from every memory, leaves its arguments as they were and, declaring no semaphore, ends with
    every counter at zero. -/
theorem frame_reference : Cert.quiescent_ReferenceIdeal (hReferenceIdeal := Cert.ReferenceIdeal.Gen.facts) := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- Over the same arguments, on any memory: the kernel and the reference both finish, and the kernel's two results are the
    reference's two, float arithmetic exact. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨_, _, Cert.KernelIdeal.KRun.run m g, (θ_run Cert.ReferenceIdeal.defs _ _).mono (fun r h c => ?_) (Cert.ReferenceIdeal.Steps.run m' g')⟩
  obtain ⟨e0, e1, e2, e3, e4⟩ := hagree c
  obtain ⟨hy, hx, hargs⟩ := h c
  rw [e0, e1, e2, e3, e4] at hy
  rw [e0, e1] at hx
  exact ⟨hy.trans (Cert.Equation.first _ _ _ _ _).symm, hx.trans (Cert.Equation.second _ _).symm, hargs⟩

/-- The five claims. -/
theorem claim : Cert.Claim := ⟨Cert.Kernel.Gen.facts, Cert.KernelIdeal.Gen.facts, Cert.ReferenceIdeal.Gen.facts, by
  exact ⟨fun m ρ _ => Cert.Kernel.Gen.frame m ρ, fun m ρ _ => Cert.KernelIdeal.Gen.frame m ρ,
    frame_reference, trivial, algebraic⟩⟩

end Cert.Proof

end
